-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_to_gate [hPre_finite_to_gate : Cert.Pre_finite_to_gate.Facts] (m : (ℓ : Loc Cert.FfnIdeal.nD Cert.FfnIdeal.τ Cert.FfnIdeal.sig) → Buf (Elt Ideal) ℓ) : Prop :=
  ∀ c : Dev Cert.FfnIdeal.nD,
    (Cert.Pre_finite_to_gate.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9)) (m ((c.tc : Thread Cert.FfnIdeal.nD Cert.FfnIdeal.τ).loc Cert.FfnIdeal.main_arg10))).1 = (fun _ => 1#1)
    ∧ (Cert.Pre_finite_to_gate.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9)) (m ((c.tc : Thread Cert.FfnIdeal.nD Cert.FfnIdeal.τ).loc Cert.FfnIdeal.main_arg10))).2.1 = (fun _ => 1#1)
    ∧ (Cert.Pre_finite_to_gate.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9)) (m ((c.tc : Thread Cert.FfnIdeal.nD Cert.FfnIdeal.τ).loc Cert.FfnIdeal.main_arg10))).2.2.1 = (fun _ => 1#1)
    ∧ (Cert.Pre_finite_to_gate.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9)) (m ((c.tc : Thread Cert.FfnIdeal.nD Cert.FfnIdeal.τ).loc Cert.FfnIdeal.main_arg10))).2.2.2.1 = (fun _ => 1#1)
    ∧ (Cert.Pre_finite_to_gate.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9)) (m ((c.tc : Thread Cert.FfnIdeal.nD Cert.FfnIdeal.τ).loc Cert.FfnIdeal.main_arg10))).2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_to_gate [hPre_finite_to_gate : Cert.Pre_finite_to_gate.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_to_gate.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9)) (m ((c.tc : Thread Cert.FfnRefIdeal.nD Cert.FfnRefIdeal.τ).loc Cert.FfnRefIdeal.main_arg10))).1 = (fun _ => 1#1)
    ∧ (Cert.Pre_finite_to_gate.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9)) (m ((c.tc : Thread Cert.FfnRefIdeal.nD Cert.FfnRefIdeal.τ).loc Cert.FfnRefIdeal.main_arg10))).2.1 = (fun _ => 1#1)
    ∧ (Cert.Pre_finite_to_gate.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9)) (m ((c.tc : Thread Cert.FfnRefIdeal.nD Cert.FfnRefIdeal.τ).loc Cert.FfnRefIdeal.main_arg10))).2.2.1 = (fun _ => 1#1)
    ∧ (Cert.Pre_finite_to_gate.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9)) (m ((c.tc : Thread Cert.FfnRefIdeal.nD Cert.FfnRefIdeal.τ).loc Cert.FfnRefIdeal.main_arg10))).2.2.2.1 = (fun _ => 1#1)
    ∧ (Cert.Pre_finite_to_gate.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9)) (m ((c.tc : Thread Cert.FfnRefIdeal.nD Cert.FfnRefIdeal.τ).loc Cert.FfnRefIdeal.main_arg10))).2.2.2.2 = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaIdeal_finite_ada [hPre_finite_ada : Cert.Pre_finite_ada.Facts] (m : (ℓ : Loc Cert.AdaIdeal.nD Cert.AdaIdeal.τ Cert.AdaIdeal.sig) → Buf (Elt Ideal) ℓ) : Prop :=
  ∀ c : Dev Cert.AdaIdeal.nD,
    (Cert.Pre_finite_ada.fn (F := Ideal) (m ((c.tc : Thread Cert.AdaIdeal.nD Cert.AdaIdeal.τ).loc Cert.AdaIdeal.main_arg0)) (m ((c.tc : Thread Cert.AdaIdeal.nD Cert.AdaIdeal.τ).loc Cert.AdaIdeal.main_arg1)) (m ((c.tc : Thread Cert.AdaIdeal.nD Cert.AdaIdeal.τ).loc Cert.AdaIdeal.main_arg2))).1 = (fun _ => 1#1)
    ∧ (Cert.Pre_finite_ada.fn (F := Ideal) (m ((c.tc : Thread Cert.AdaIdeal.nD Cert.AdaIdeal.τ).loc Cert.AdaIdeal.main_arg0)) (m ((c.tc : Thread Cert.AdaIdeal.nD Cert.AdaIdeal.τ).loc Cert.AdaIdeal.main_arg1)) (m ((c.tc : Thread Cert.AdaIdeal.nD Cert.AdaIdeal.τ).loc Cert.AdaIdeal.main_arg2))).2 = (fun _ => 1#1)

def Pre_AdaRefIdeal (m : (ℓ : Loc Cert.AdaRefIdeal.nD Cert.AdaRefIdeal.τ Cert.AdaRefIdeal.sig) → Buf (Elt Ideal) ℓ) : Prop :=
  True

def Pre_AdaRefIdeal_finite_ada [hPre_finite_ada : Cert.Pre_finite_ada.Facts] (m : (ℓ : Loc Cert.AdaRefIdeal.nD Cert.AdaRefIdeal.τ Cert.AdaRefIdeal.sig) → Buf (Elt Ideal) ℓ) : Prop :=
  ∀ c : Dev Cert.AdaRefIdeal.nD,
    (Cert.Pre_finite_ada.fn (F := Ideal) (m ((c.tc : Thread Cert.AdaRefIdeal.nD Cert.AdaRefIdeal.τ).loc Cert.AdaRefIdeal.main_arg0)) (m ((c.tc : Thread Cert.AdaRefIdeal.nD Cert.AdaRefIdeal.τ).loc Cert.AdaRefIdeal.main_arg1)) (m ((c.tc : Thread Cert.AdaRefIdeal.nD Cert.AdaRefIdeal.τ).loc Cert.AdaRefIdeal.main_arg2))).1 = (fun _ => 1#1)
    ∧ (Cert.Pre_finite_ada.fn (F := Ideal) (m ((c.tc : Thread Cert.AdaRefIdeal.nD Cert.AdaRefIdeal.τ).loc Cert.AdaRefIdeal.main_arg0)) (m ((c.tc : Thread Cert.AdaRefIdeal.nD Cert.AdaRefIdeal.τ).loc Cert.AdaRefIdeal.main_arg1)) (m ((c.tc : Thread Cert.AdaRefIdeal.nD Cert.AdaRefIdeal.τ).loc Cert.AdaRefIdeal.main_arg2))).2 = (fun _ => 1#1)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9)
      ∧ r.2.mem ((c.tc : Thread Cert.Ffn.nD Cert.Ffn.τ).loc Cert.Ffn.main_arg10) = m ((c.tc : Thread Cert.Ffn.nD Cert.Ffn.τ).loc Cert.Ffn.main_arg10))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10))
      ∧ r.2.sem = fun _ => 0)

def quiescent_FfnIdeal_pre_finite_to_gate [hFfnIdeal : Cert.FfnIdeal.Facts] [hPre_finite_to_gate : Cert.Pre_finite_to_gate.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_to_gate m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9)
      ∧ r.2.mem ((c.tc : Thread Cert.FfnRefIdeal.nD Cert.FfnRefIdeal.τ).loc Cert.FfnRefIdeal.main_arg10) = m ((c.tc : Thread Cert.FfnRefIdeal.nD Cert.FfnRefIdeal.τ).loc Cert.FfnRefIdeal.main_arg10))
      ∧ r.2.sem = fun _ => 0)

def quiescent_FfnRefIdeal_pre_finite_to_gate [hFfnRefIdeal : Cert.FfnRefIdeal.Facts] [hPre_finite_to_gate : Cert.Pre_finite_to_gate.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_to_gate m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9)
      ∧ r.2.mem ((c.tc : Thread Cert.FfnRefIdeal.nD Cert.FfnRefIdeal.τ).loc Cert.FfnRefIdeal.main_arg10) = m ((c.tc : Thread Cert.FfnRefIdeal.nD Cert.FfnRefIdeal.τ).loc Cert.FfnRefIdeal.main_arg10))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7)
      ∧ r.2.mem ((c.tc : Thread Cert.Inproj.nD Cert.Inproj.τ).loc Cert.Inproj.main_arg8) = m ((c.tc : Thread Cert.Inproj.nD Cert.Inproj.τ).loc Cert.Inproj.main_arg8)
      ∧ r.2.mem ((c.tc : Thread Cert.Inproj.nD Cert.Inproj.τ).loc Cert.Inproj.main_arg9) = m ((c.tc : Thread Cert.Inproj.nD Cert.Inproj.τ).loc Cert.Inproj.main_arg9)
      ∧ r.2.mem ((c.tc : Thread Cert.Inproj.nD Cert.Inproj.τ).loc Cert.Inproj.main_arg10) = m ((c.tc : Thread Cert.Inproj.nD Cert.Inproj.τ).loc Cert.Inproj.main_arg10)
      ∧ r.2.mem ((c.tc : Thread Cert.Inproj.nD Cert.Inproj.τ).loc Cert.Inproj.main_arg11) = m ((c.tc : Thread Cert.Inproj.nD Cert.Inproj.τ).loc Cert.Inproj.main_arg11)
      ∧ r.2.mem ((c.tc : Thread Cert.Inproj.nD Cert.Inproj.τ).loc Cert.Inproj.main_arg12) = m ((c.tc : Thread Cert.Inproj.nD Cert.Inproj.τ).loc Cert.Inproj.main_arg12)
      ∧ r.2.mem ((c.tc : Thread Cert.Inproj.nD Cert.Inproj.τ).loc Cert.Inproj.main_arg13) = m ((c.tc : Thread Cert.Inproj.nD Cert.Inproj.τ).loc Cert.Inproj.main_arg13))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
      ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
      ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
      ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11)
      ∧ r.2.mem ((c.tc : Thread Cert.InprojIdeal.nD Cert.InprojIdeal.τ).loc Cert.InprojIdeal.main_arg12) = m ((c.tc : Thread Cert.InprojIdeal.nD Cert.InprojIdeal.τ).loc Cert.InprojIdeal.main_arg12)
      ∧ r.2.mem ((c.tc : Thread Cert.InprojIdeal.nD Cert.InprojIdeal.τ).loc Cert.InprojIdeal.main_arg13) = m ((c.tc : Thread Cert.InprojIdeal.nD Cert.InprojIdeal.τ).loc Cert.InprojIdeal.main_arg13))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7)
      ∧ r.2.mem ((c.tc : Thread Cert.InprojRefIdeal.nD Cert.InprojRefIdeal.τ).loc Cert.InprojRefIdeal.main_arg8) = m ((c.tc : Thread Cert.InprojRefIdeal.nD Cert.InprojRefIdeal.τ).loc Cert.InprojRefIdeal.main_arg8)
      ∧ r.2.mem ((c.tc : Thread Cert.InprojRefIdeal.nD Cert.InprojRefIdeal.τ).loc Cert.InprojRefIdeal.main_arg9) = m ((c.tc : Thread Cert.InprojRefIdeal.nD Cert.InprojRefIdeal.τ).loc Cert.InprojRefIdeal.main_arg9)
      ∧ r.2.mem ((c.tc : Thread Cert.InprojRefIdeal.nD Cert.InprojRefIdeal.τ).loc Cert.InprojRefIdeal.main_arg10) = m ((c.tc : Thread Cert.InprojRefIdeal.nD Cert.InprojRefIdeal.τ).loc Cert.InprojRefIdeal.main_arg10)
      ∧ r.2.mem ((c.tc : Thread Cert.InprojRefIdeal.nD Cert.InprojRefIdeal.τ).loc Cert.InprojRefIdeal.main_arg11) = m ((c.tc : Thread Cert.InprojRefIdeal.nD Cert.InprojRefIdeal.τ).loc Cert.InprojRefIdeal.main_arg11)
      ∧ r.2.mem ((c.tc : Thread Cert.InprojRefIdeal.nD Cert.InprojRefIdeal.τ).loc Cert.InprojRefIdeal.main_arg12) = m ((c.tc : Thread Cert.InprojRefIdeal.nD Cert.InprojRefIdeal.τ).loc Cert.InprojRefIdeal.main_arg12)
      ∧ r.2.mem ((c.tc : Thread Cert.InprojRefIdeal.nD Cert.InprojRefIdeal.τ).loc Cert.InprojRefIdeal.main_arg13) = m ((c.tc : Thread Cert.InprojRefIdeal.nD Cert.InprojRefIdeal.τ).loc Cert.InprojRefIdeal.main_arg13))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaIdeal_pre_finite_ada [hAdaIdeal : Cert.AdaIdeal.Facts] [hPre_finite_ada : Cert.Pre_finite_ada.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal_finite_ada m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_AdaRefIdeal_pre_finite_ada [hAdaRefIdeal : Cert.AdaRefIdeal.Facts] [hPre_finite_ada : Cert.Pre_finite_ada.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal_finite_ada m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def preserves_Ffn_FfnIdeal : Prop :=
  True

def algebraic_FfnIdeal_FfnRefIdeal_pre_finite_to_gate [hFfnIdeal : Cert.FfnIdeal.Facts] [hFfnRefIdeal : Cert.FfnRefIdeal.Facts] [hPre_finite_to_gate : Cert.Pre_finite_to_gate.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_to_gate m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)
      ∧ m' ((c.tc : Thread Cert.FfnRefIdeal.nD Cert.FfnRefIdeal.τ).loc Cert.FfnRefIdeal.main_arg10) = m ((c.tc : Thread Cert.FfnIdeal.nD Cert.FfnIdeal.τ).loc Cert.FfnIdeal.main_arg10)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
          ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v85) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9)
          ∧ r.2.mem ((c.tc : Thread Cert.FfnRefIdeal.nD Cert.FfnRefIdeal.τ).loc Cert.FfnRefIdeal.main_arg10) = m' ((c.tc : Thread Cert.FfnRefIdeal.nD Cert.FfnRefIdeal.τ).loc Cert.FfnRefIdeal.main_arg10))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)
      ∧ m' ((c.tc : Thread Cert.InprojRefIdeal.nD Cert.InprojRefIdeal.τ).loc Cert.InprojRefIdeal.main_arg7) = m ((c.tc : Thread Cert.InprojIdeal.nD Cert.InprojIdeal.τ).loc Cert.InprojIdeal.main_arg7)
      ∧ m' ((c.tc : Thread Cert.InprojRefIdeal.nD Cert.InprojRefIdeal.τ).loc Cert.InprojRefIdeal.main_arg8) = m ((c.tc : Thread Cert.InprojIdeal.nD Cert.InprojIdeal.τ).loc Cert.InprojIdeal.main_arg8)
      ∧ m' ((c.tc : Thread Cert.InprojRefIdeal.nD Cert.InprojRefIdeal.τ).loc Cert.InprojRefIdeal.main_arg9) = m ((c.tc : Thread Cert.InprojIdeal.nD Cert.InprojIdeal.τ).loc Cert.InprojIdeal.main_arg9)
      ∧ m' ((c.tc : Thread Cert.InprojRefIdeal.nD Cert.InprojRefIdeal.τ).loc Cert.InprojRefIdeal.main_arg10) = m ((c.tc : Thread Cert.InprojIdeal.nD Cert.InprojIdeal.τ).loc Cert.InprojIdeal.main_arg10)
      ∧ m' ((c.tc : Thread Cert.InprojRefIdeal.nD Cert.InprojRefIdeal.τ).loc Cert.InprojRefIdeal.main_arg11) = m ((c.tc : Thread Cert.InprojIdeal.nD Cert.InprojIdeal.τ).loc Cert.InprojIdeal.main_arg11)
      ∧ m' ((c.tc : Thread Cert.InprojRefIdeal.nD Cert.InprojRefIdeal.τ).loc Cert.InprojRefIdeal.main_arg12) = m ((c.tc : Thread Cert.InprojIdeal.nD Cert.InprojIdeal.τ).loc Cert.InprojIdeal.main_arg12)
      ∧ m' ((c.tc : Thread Cert.InprojRefIdeal.nD Cert.InprojRefIdeal.τ).loc Cert.InprojRefIdeal.main_arg13) = m ((c.tc : Thread Cert.InprojIdeal.nD Cert.InprojIdeal.τ).loc Cert.InprojIdeal.main_arg13)) →
    ∃ (v0 : (c : Dev Cert.InprojIdeal.nD) → Buf (Elt Ideal) ((c.tc : Thread Cert.InprojIdeal.nD Cert.InprojIdeal.τ).loc Cert.InprojIdeal.main_v5_0)) (v1 : (c : Dev Cert.InprojIdeal.nD) → Buf (Elt Ideal) ((c.tc : Thread Cert.InprojIdeal.nD Cert.InprojIdeal.τ).loc Cert.InprojIdeal.main_v5_2)) (v2 : (c : Dev Cert.InprojIdeal.nD) → Buf (Elt Ideal) ((c.tc : Thread Cert.InprojIdeal.nD Cert.InprojIdeal.τ).loc Cert.InprojIdeal.main_v5_3)) (v3 : (c : Dev Cert.InprojIdeal.nD) → Buf (Elt Ideal) ((c.tc : Thread Cert.InprojIdeal.nD Cert.InprojIdeal.τ).loc Cert.InprojIdeal.main_v5_4)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v5_0) = v0 c
          ∧ r.2.mem ((c.tc : Thread Cert.InprojIdeal.nD Cert.InprojIdeal.τ).loc Cert.InprojIdeal.main_v5_2) = v1 c
          ∧ r.2.mem ((c.tc : Thread Cert.InprojIdeal.nD Cert.InprojIdeal.τ).loc Cert.InprojIdeal.main_v5_3) = v2 c
          ∧ r.2.mem ((c.tc : Thread Cert.InprojIdeal.nD Cert.InprojIdeal.τ).loc Cert.InprojIdeal.main_v5_4) = v3 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
          ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
          ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
          ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
          ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11)
          ∧ r.2.mem ((c.tc : Thread Cert.InprojIdeal.nD Cert.InprojIdeal.τ).loc Cert.InprojIdeal.main_arg12) = m ((c.tc : Thread Cert.InprojIdeal.nD Cert.InprojIdeal.τ).loc Cert.InprojIdeal.main_arg12)
          ∧ r.2.mem ((c.tc : Thread Cert.InprojIdeal.nD Cert.InprojIdeal.τ).loc Cert.InprojIdeal.main_arg13) = m ((c.tc : Thread Cert.InprojIdeal.nD Cert.InprojIdeal.τ).loc Cert.InprojIdeal.main_arg13))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v38) = v0 c
          ∧ r.2.mem ((c.tc : Thread Cert.InprojRefIdeal.nD Cert.InprojRefIdeal.τ).loc Cert.InprojRefIdeal.main_v39) = v1 c
          ∧ r.2.mem ((c.tc : Thread Cert.InprojRefIdeal.nD Cert.InprojRefIdeal.τ).loc Cert.InprojRefIdeal.main_v40) = v2 c
          ∧ r.2.mem ((c.tc : Thread Cert.InprojRefIdeal.nD Cert.InprojRefIdeal.τ).loc Cert.InprojRefIdeal.main_v41) = v3 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6)
          ∧ r.2.mem ((c.tc : Thread Cert.InprojRefIdeal.nD Cert.InprojRefIdeal.τ).loc Cert.InprojRefIdeal.main_arg7) = m' ((c.tc : Thread Cert.InprojRefIdeal.nD Cert.InprojRefIdeal.τ).loc Cert.InprojRefIdeal.main_arg7)
          ∧ r.2.mem ((c.tc : Thread Cert.InprojRefIdeal.nD Cert.InprojRefIdeal.τ).loc Cert.InprojRefIdeal.main_arg8) = m' ((c.tc : Thread Cert.InprojRefIdeal.nD Cert.InprojRefIdeal.τ).loc Cert.InprojRefIdeal.main_arg8)
          ∧ r.2.mem ((c.tc : Thread Cert.InprojRefIdeal.nD Cert.InprojRefIdeal.τ).loc Cert.InprojRefIdeal.main_arg9) = m' ((c.tc : Thread Cert.InprojRefIdeal.nD Cert.InprojRefIdeal.τ).loc Cert.InprojRefIdeal.main_arg9)
          ∧ r.2.mem ((c.tc : Thread Cert.InprojRefIdeal.nD Cert.InprojRefIdeal.τ).loc Cert.InprojRefIdeal.main_arg10) = m' ((c.tc : Thread Cert.InprojRefIdeal.nD Cert.InprojRefIdeal.τ).loc Cert.InprojRefIdeal.main_arg10)
          ∧ r.2.mem ((c.tc : Thread Cert.InprojRefIdeal.nD Cert.InprojRefIdeal.τ).loc Cert.InprojRefIdeal.main_arg11) = m' ((c.tc : Thread Cert.InprojRefIdeal.nD Cert.InprojRefIdeal.τ).loc Cert.InprojRefIdeal.main_arg11)
          ∧ r.2.mem ((c.tc : Thread Cert.InprojRefIdeal.nD Cert.InprojRefIdeal.τ).loc Cert.InprojRefIdeal.main_arg12) = m' ((c.tc : Thread Cert.InprojRefIdeal.nD Cert.InprojRefIdeal.τ).loc Cert.InprojRefIdeal.main_arg12)
          ∧ r.2.mem ((c.tc : Thread Cert.InprojRefIdeal.nD Cert.InprojRefIdeal.τ).loc Cert.InprojRefIdeal.main_arg13) = m' ((c.tc : Thread Cert.InprojRefIdeal.nD Cert.InprojRefIdeal.τ).loc Cert.InprojRefIdeal.main_arg13))

def preserves_Ada_AdaIdeal : Prop :=
  True

def algebraic_AdaIdeal_AdaRefIdeal_pre_finite_ada [hAdaIdeal : Cert.AdaIdeal.Facts] [hAdaRefIdeal : Cert.AdaRefIdeal.Facts] [hPre_finite_ada : Cert.Pre_finite_ada.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal_finite_ada m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v5) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def Claim : Prop :=
  ∃ (hFfn : Cert.Ffn.Facts) (hFfnIdeal : Cert.FfnIdeal.Facts) (hFfnRefIdeal : Cert.FfnRefIdeal.Facts) (hInproj : Cert.Inproj.Facts) (hInprojIdeal : Cert.InprojIdeal.Facts) (hInprojRefIdeal : Cert.InprojRefIdeal.Facts) (hAda : Cert.Ada.Facts) (hAdaIdeal : Cert.AdaIdeal.Facts) (hAdaRefIdeal : Cert.AdaRefIdeal.Facts) (hPre_finite_to_gate : Cert.Pre_finite_to_gate.Facts) (hPre_finite_ada : Cert.Pre_finite_ada.Facts),
    quiescent_Ffn (hFfn := hFfn)
    ∧ quiescent_FfnIdeal (hFfnIdeal := hFfnIdeal)
    ∧ quiescent_FfnIdeal_pre_finite_to_gate (hFfnIdeal := hFfnIdeal) (hPre_finite_to_gate := hPre_finite_to_gate)
    ∧ quiescent_FfnRefIdeal (hFfnRefIdeal := hFfnRefIdeal)
    ∧ quiescent_FfnRefIdeal_pre_finite_to_gate (hFfnRefIdeal := hFfnRefIdeal) (hPre_finite_to_gate := hPre_finite_to_gate)
    ∧ quiescent_Inproj (hInproj := hInproj)
    ∧ quiescent_InprojIdeal (hInprojIdeal := hInprojIdeal)
    ∧ quiescent_InprojRefIdeal (hInprojRefIdeal := hInprojRefIdeal)
    ∧ quiescent_Ada (hAda := hAda)
    ∧ quiescent_AdaIdeal (hAdaIdeal := hAdaIdeal)
    ∧ quiescent_AdaIdeal_pre_finite_ada (hAdaIdeal := hAdaIdeal) (hPre_finite_ada := hPre_finite_ada)
    ∧ quiescent_AdaRefIdeal (hAdaRefIdeal := hAdaRefIdeal)
    ∧ quiescent_AdaRefIdeal_pre_finite_ada (hAdaRefIdeal := hAdaRefIdeal) (hPre_finite_ada := hPre_finite_ada)
    ∧ preserves_Ffn_FfnIdeal
    ∧ algebraic_FfnIdeal_FfnRefIdeal_pre_finite_to_gate (hFfnIdeal := hFfnIdeal) (hFfnRefIdeal := hFfnRefIdeal) (hPre_finite_to_gate := hPre_finite_to_gate)
    ∧ preserves_Inproj_InprojIdeal
    ∧ algebraic_InprojIdeal_InprojRefIdeal (hInprojIdeal := hInprojIdeal) (hInprojRefIdeal := hInprojRefIdeal)
    ∧ preserves_Ada_AdaIdeal
    ∧ algebraic_AdaIdeal_AdaRefIdeal_pre_finite_ada (hAdaIdeal := hAdaIdeal) (hAdaRefIdeal := hAdaRefIdeal) (hPre_finite_ada := hPre_finite_ada)
-- ==== Pre_finite_ada.lean ====
abbrev S8x1024 : Shape := ⟨2, ![8, 1024]⟩
abbrev S1024x6144 : Shape := ⟨2, ![1024, 6144]⟩
abbrev S6144 : Shape := ⟨1, ![6144]⟩
abbrev S_ : Shape := ⟨0, ![]⟩

class Facts : Prop where
  bcast_S_S8x1024 : S_.BroadcastsInDim S8x1024 (![] : Fin 0 → Fin S8x1024.rank)
  bcast_S_S1024x6144 : S_.BroadcastsInDim S1024x6144 (![] : Fin 0 → Fin S1024x6144.rank)

variable [Facts]

def fn {F : FTy → Type} [FloatOps F] (main_arg0 : FVec F S8x1024 .f32) (main_arg1 : FVec F S1024x6144 .f32) (main_arg2 : FVec F S6144 .f32) : IVec S8x1024 1 × IVec S1024x6144 1 :=
  let main_v0 : FVec F S8x1024 .f32 := Host.absf main_arg0
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_v3 : FVec F S1024x6144 .f32 := Host.absf main_arg1
  let main_cst_0 : FVec F S_ .f32 := constant S_ .f32 0x7F800000#32
  let main_v4 : FVec F S1024x6144 .f32 := broadcastInDim S1024x6144 ![] bcast_S_S1024x6144 main_cst_0
  let main_v5 : IVec S1024x6144 1 := cmpf .olt main_v3 main_v4
  (main_v2, main_v5)
-- ==== Pre_finite_to_gate.lean ====
abbrev S8x2048x1024 : Shape := ⟨3, ![8, 2048, 1024]⟩
abbrev S8x2048x512 : Shape := ⟨3, ![8, 2048, 512]⟩
abbrev S8x1x6144 : Shape := ⟨3, ![8, 1, 6144]⟩
abbrev S1024 : Shape := ⟨1, ![1024]⟩
abbrev S1024x1024 : Shape := ⟨2, ![1024, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S8x1x2048 : Shape := ⟨3, ![8, 1, 2048]⟩
abbrev S_ : Shape := ⟨0, ![]⟩
abbrev S1024x2816 : Shape := ⟨2, ![1024, 2816]⟩
abbrev S3x2816 : Shape := ⟨2, ![3, 2816]⟩
abbrev S2816 : Shape := ⟨1, ![2816]⟩

class Facts : Prop where
  slices_S8x1x6144_S8x1x2048_0_0_3072 : S8x1x6144.Slices ![0, 0, 3072] S8x1x2048
  bcast_S_S8x1x2048 : S_.BroadcastsInDim S8x1x2048 (![] : Fin 0 → Fin S8x1x2048.rank)
  bcast_S_S1024 : S_.BroadcastsInDim S1024 (![] : Fin 0 → Fin S1024.rank)
  slices_S1024x5632_S1024x2816_0_0 : S1024x5632.Slices ![0, 0] S1024x2816
  bitsLt_bf16_f32 : FTy.bits .bf16 < FTy.bits .f32
  bcast_S_S1024x2816 : S_.BroadcastsInDim S1024x2816 (![] : Fin 0 → Fin S1024x2816.rank)
  slices_S3x5632_S3x2816_0_0 : S3x5632.Slices ![0, 0] S3x2816
  bcast_S_S3x2816 : S_.BroadcastsInDim S3x2816 (![] : Fin 0 → Fin S3x2816.rank)
  slices_S5632_S2816_0 : S5632.Slices ![0] S2816
  bcast_S_S2816 : S_.BroadcastsInDim S2816 (![] : Fin 0 → Fin S2816.rank)

variable [Facts]

def fn_part1 {F : FTy → Type} [FloatOps F] (main_v3 : IVec S8x1x2048 1) (main_v6 : IVec S1024 1) (main_v11 : IVec S1024x2816 1) (main_v15 : IVec S3x2816 1) (main_v17 : FVec F S2816 .f32) (main_v18 : FVec F S2816 .f32) : IVec S8x1x2048 1 × IVec S1024 1 × IVec S1024x2816 1 × IVec S3x2816 1 × IVec S2816 1 :=
  let main_v19 : IVec S2816 1 := cmpf .olt main_v17 main_v18
  (main_v3, main_v6, main_v11, main_v15, main_v19)

def fn {F : FTy → Type} [FloatOps F] (main_arg0 : FVec F S8x2048x1024 .f32) (main_arg1 : FVec F S8x2048x512 .bf16) (main_arg2 : FVec F S8x2048x512 .bf16) (main_arg3 : FVec F S8x1x6144 .f32) (main_arg4 : FVec F S1024 .f32) (main_arg5 : FVec F S1024 .f32) (main_arg6 : FVec F S1024x1024 .bf16) (main_arg7 : FVec F S1024x5632 .bf16) (main_arg8 : FVec F S3x5632 .f32) (main_arg9 : FVec F S5632 .f32) (main_arg10 : FVec F S2816x1024 .bf16) : IVec S8x1x2048 1 × IVec S1024 1 × IVec S1024x2816 1 × IVec S3x2816 1 × IVec S2816 1 :=
  let main_v0 : FVec F S8x1x2048 .f32 := (extractStridedSlice S8x1x2048 ![0, 0, 3072] · slices_S8x1x6144_S8x1x2048_0_0_3072) main_arg3
  let main_v1 : FVec F S8x1x2048 .f32 := Host.absf main_v0
  let main_cst : FVec F S_ .f32 := constant S_ .f32 0x7F800000#32
  let main_v2 : FVec F S8x1x2048 .f32 := broadcastInDim S8x1x2048 ![] bcast_S_S8x1x2048 main_cst
  let main_v3 : IVec S8x1x2048 1 := cmpf .olt main_v1 main_v2
  let main_v4 : FVec F S1024 .f32 := Host.absf main_arg4
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_v7 : FVec F S1024x2816 .bf16 := (extractStridedSlice S1024x2816 ![0, 0] · slices_S1024x5632_S1024x2816_0_0) main_arg7
  let main_v8 : FVec F S1024x2816 .f32 := (extf .f32 · bitsLt_bf16_f32) main_v7
  let main_v9 : FVec F S1024x2816 .f32 := Host.absf main_v8
  let main_cst_1 : FVec F S_ .f32 := constant S_ .f32 0x7F800000#32
  let main_v10 : FVec F S1024x2816 .f32 := broadcastInDim S1024x2816 ![] bcast_S_S1024x2816 main_cst_1
  let main_v11 : IVec S1024x2816 1 := cmpf .olt main_v9 main_v10
  let main_v12 : FVec F S3x2816 .f32 := (extractStridedSlice S3x2816 ![0, 0] · slices_S3x5632_S3x2816_0_0) main_arg8
  let main_v13 : FVec F S3x2816 .f32 := Host.absf main_v12
  let main_cst_2 : FVec F S_ .f32 := constant S_ .f32 0x7F800000#32
  let main_v14 : FVec F S3x2816 .f32 := broadcastInDim S3x2816 ![] bcast_S_S3x2816 main_cst_2
  let main_v15 : IVec S3x2816 1 := cmpf .olt main_v13 main_v14
  let main_v16 : FVec F S2816 .f32 := (extractStridedSlice S2816 ![0] · slices_S5632_S2816_0) main_arg9
  let main_v17 : FVec F S2816 .f32 := Host.absf main_v16
  let main_cst_3 : FVec F S_ .f32 := constant S_ .f32 0x7F800000#32
  let main_v18 : FVec F S2816 .f32 := broadcastInDim S2816 ![] bcast_S_S2816 main_cst_3
  fn_part1 (F := F) main_v3 main_v6 main_v11 main_v15 main_v17 main_v18
-- ==== Ffn.lean ====
abbrev S8x2048x1024 : Shape := ⟨3, ![8, 2048, 1024]⟩
abbrev S8x2048x512 : Shape := ⟨3, ![8, 2048, 512]⟩
abbrev S8x1x6144 : Shape := ⟨3, ![8, 1, 6144]⟩
abbrev S1024 : Shape := ⟨1, ![1024]⟩
abbrev S1024x1024 : Shape := ⟨2, ![1024, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1x5632 : Shape := ⟨2, ![1, 5632]⟩
abbrev S8x128x1024 : Shape := ⟨3, ![8, 128, 1024]⟩
abbrev S8x128x512 : Shape := ⟨3, ![8, 128, 512]⟩
abbrev S16x5632 : Shape := ⟨2, ![16, 5632]⟩
abbrev S8x1x1024 : Shape := ⟨3, ![8, 1, 1024]⟩
abbrev S1x1x1024 : Shape := ⟨3, ![1, 1, 1024]⟩
abbrev S16x256 : Shape := ⟨2, ![16, 256]⟩
abbrev S16x1280 : Shape := ⟨2, ![16, 1280]⟩
abbrev S8x64x512 : Shape := ⟨3, ![8, 64, 512]⟩
abbrev S512x512 : Shape := ⟨2, ![512, 512]⟩
abbrev S512x1024 : Shape := ⟨2, ![512, 1024]⟩
abbrev S8x64x1024 : Shape := ⟨3, ![8, 64, 1024]⟩
abbrev S8x16x1024 : Shape := ⟨3, ![8, 16, 1024]⟩
abbrev S8x16 : Shape := ⟨2, ![8, 16]⟩
abbrev S8x16x1 : Shape := ⟨3, ![8, 16, 1]⟩
abbrev S16x8x1024 : Shape := ⟨3, ![16, 8, 1024]⟩
abbrev S128x1024 : Shape := ⟨2, ![128, 1024]⟩
abbrev S1024x256 : Shape := ⟨2, ![1024, 256]⟩
abbrev S512x256 : Shape := ⟨2, ![512, 256]⟩
abbrev S528x256 : Shape := ⟨2, ![528, 256]⟩
abbrev S1x256 : Shape := ⟨2, ![1, 256]⟩
abbrev S256x1024 : Shape := ⟨2, ![256, 1024]⟩
abbrev S1024x1280 : Shape := ⟨2, ![1024, 1280]⟩
abbrev S512x1280 : Shape := ⟨2, ![512, 1280]⟩
abbrev S528x1280 : Shape := ⟨2, ![528, 1280]⟩
abbrev S1x1280 : Shape := ⟨2, ![1, 1280]⟩
abbrev S1280x1024 : Shape := ⟨2, ![1280, 1024]⟩

abbrev nBuf : Space → Nat
  | .hbm => 15
  | .vmem => 17
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S8x1x6144, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S1024x5632, .bf16⟩
  | .hbm, ⟨8, _⟩ => ⟨S3x5632, .f32⟩
  | .hbm, ⟨9, _⟩ => ⟨S5632, .f32⟩
  | .hbm, ⟨10, _⟩ => ⟨S2816x1024, .bf16⟩
  | .hbm, ⟨11, _⟩ => ⟨S1x1024, .f32⟩
  | .hbm, ⟨12, _⟩ => ⟨S1x1024, .f32⟩
  | .hbm, ⟨13, _⟩ => ⟨S1x5632, .f32⟩
  | .hbm, ⟨14, _⟩ => ⟨S8x2048x1024, .f32⟩
  | .local _ .vmem, ⟨0, _⟩ => ⟨S8x128x1024, .f32⟩
  | .local _ .vmem, ⟨1, _⟩ => ⟨S8x128x1024, .f32⟩
  | .local _ .vmem, ⟨2, _⟩ => ⟨S8x128x512, .bf16⟩
  | .local _ .vmem, ⟨3, _⟩ => ⟨S8x128x512, .bf16⟩
  | .local _ .vmem, ⟨4, _⟩ => ⟨S8x128x512, .bf16⟩
  | .local _ .vmem, ⟨5, _⟩ => ⟨S8x128x512, .bf16⟩
  | .local _ .vmem, ⟨6, _⟩ => ⟨S8x1x6144, .f32⟩
  | .local _ .vmem, ⟨7, _⟩ => ⟨S1x1024, .f32⟩
  | .local _ .vmem, ⟨8, _⟩ => ⟨S1x1024, .f32⟩
  | .local _ .vmem, ⟨9, _⟩ => ⟨S1024x1024, .bf16⟩
  | .local _ .vmem, ⟨10, _⟩ => ⟨S1024x5632, .bf16⟩
  | .local _ .vmem, ⟨11, _⟩ => ⟨S3x5632, .f32⟩
  | .local _ .vmem, ⟨12, _⟩ => ⟨S1x5632, .f32⟩
  | .local _ .vmem, ⟨13, _⟩ => ⟨S2816x1024, .bf16⟩
  | .local _ .vmem, ⟨14, _⟩ => ⟨S8x128x1024, .f32⟩
  | .local _ .vmem, ⟨15, _⟩ => ⟨S8x128x1024, .f32⟩
  | .local _ .vmem, ⟨16, _⟩ => ⟨S16x5632, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x5632 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8x128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== FfnRefIdeal.lean ====
abbrev S8x2048x1024 : Shape := ⟨3, ![8, 2048, 1024]⟩
abbrev S8x2048x512 : Shape := ⟨3, ![8, 2048, 512]⟩
abbrev S8x1x6144 : Shape := ⟨3, ![8, 1, 6144]⟩
abbrev S1024 : Shape := ⟨1, ![1024]⟩
abbrev S1024x1024 : Shape := ⟨2, ![1024, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S8x6144 : Shape := ⟨2, ![8, 6144]⟩
abbrev S8x1024 : Shape := ⟨2, ![8, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5632 : Shape := ⟨3, ![8, 2048, 5632]⟩
abbrev S8x2050x5632 : Shape := ⟨3, ![8, 2050, 5632]⟩
abbrev S1x5632 : Shape := ⟨2, ![1, 5632]⟩
abbrev S1x1x5632 : Shape := ⟨3, ![1, 1, 5632]⟩
abbrev S8x2048x2816 : Shape := ⟨3, ![8, 2048, 2816]⟩

abbrev nBuf : Space → Nat
  | .hbm => 114
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S8x1x6144, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S1024x5632, .bf16⟩
  | .hbm, ⟨8, _⟩ => ⟨S3x5632, .f32⟩
  | .hbm, ⟨9, _⟩ => ⟨S5632, .f32⟩
  | .hbm, ⟨10, _⟩ => ⟨S2816x1024, .bf16⟩
  | .hbm, ⟨11, _⟩ => ⟨S8x2048x512, .f32⟩
  | .hbm, ⟨12, _⟩ => ⟨S8x2048x512, .f32⟩
  | .hbm, ⟨13, _⟩ => ⟨S1024x1024, .f32⟩
  | .hbm, ⟨14, _⟩ => ⟨S1024x5632, .f32⟩
  | .hbm, ⟨15, _⟩ => ⟨S2816x1024, .f32⟩
  | .hbm, ⟨16, _⟩ => ⟨S8x6144, .f32⟩
  | .hbm, ⟨17, _⟩ => ⟨S8x1024, .f32⟩
  | .hbm, ⟨18, _⟩ => ⟨S8x1024, .f32⟩
  | .hbm, ⟨19, _⟩ => ⟨S8x1024, .f32⟩
  | .hbm, ⟨20, _⟩ => ⟨S8x1024, .f32⟩
  | .hbm, ⟨21, _⟩ => ⟨S8x1024, .f32⟩
  | .hbm, ⟨22, _⟩ => ⟨S8x1024, .f32⟩
  | .hbm, ⟨23, _⟩ => ⟨S8x2048x1024, .f32⟩
  | .hbm, ⟨24, _⟩ => ⟨S8x2048x1024, .f32⟩
  | .hbm, ⟨25, _⟩ => ⟨S8x1x1024, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S_, .f32⟩
  | .hbm, ⟨31, _⟩ => ⟨S8x2048, .f32⟩
  | .hbm, ⟨32, _⟩ => ⟨S8x2048x1, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S_, .f32⟩
  | .hbm, ⟨37, _⟩ => ⟨S8x2048x1, .f32⟩
  | .hbm, ⟨38, _⟩ => ⟨S8x2048x1, .f32⟩
  | .hbm, ⟨39, _⟩ => ⟨S8x2048x1, .f32⟩
  | .hbm, ⟨40, _⟩ => ⟨S8x2048x1024, .f32⟩
  | .hbm, ⟨41, _⟩ => ⟨S8x2048x1024, .f32⟩
  | .hbm, ⟨42, _⟩ => ⟨S1x1x1024, .f32⟩
  | .hbm, ⟨43, _⟩ => ⟨S8x2048x1024, .f32⟩
  | .hbm, ⟨44, _⟩ => ⟨S8x2048x1024, .f32⟩
  | .hbm, ⟨45, _⟩ => ⟨S8x1x1024, .f32⟩
  | .hbm, ⟨46, _⟩ => ⟨S_, .f32⟩
  | .hbm, ⟨47, _⟩ => ⟨S8x1x1024, .f32⟩
  | .hbm, ⟨48, _⟩ => ⟨S8x1x1024, .f32⟩
  | .hbm, ⟨49, _⟩ => ⟨S8x2048x1024, .f32⟩
  | .hbm, ⟨50, _⟩ => ⟨S8x2048x1024, .f32⟩
  | .hbm, ⟨51, _⟩ => ⟨S8x1x1024, .f32⟩
  | .hbm, ⟨52, _⟩ => ⟨S8x2048x1024, .f32⟩
  | .hbm, ⟨53, _⟩ => ⟨S8x2048x1024, .f32⟩
  | .hbm, ⟨54, _⟩ => ⟨S8x2048x5632, .f32⟩
  | .hbm, ⟨55, _⟩ => ⟨S_, .i32⟩
  | .hbm, ⟨56, _⟩ => ⟨S_, .f32⟩
  | .hbm, ⟨57, _⟩ => ⟨S8x2050x5632, .f32⟩
  | .hbm, ⟨58, _⟩ => ⟨S8x2048x5632, .f32⟩
  | .hbm, ⟨59, _⟩ => ⟨S1x5632, .f32⟩
  | .hbm, ⟨60, _⟩ => ⟨S5632, .f32⟩
  | .hbm, ⟨61, _⟩ => ⟨S1x1x5632, .f32⟩
  | .hbm, ⟨62, _⟩ => ⟨S8x2048x5632, .f32⟩
  | .hbm, ⟨63, _⟩ => ⟨S8x2048x5632, .f32⟩
  | .hbm, ⟨64, _⟩ => ⟨S8x2048x5632, .f32⟩
  | .hbm, ⟨65, _⟩ => ⟨S1x5632, .f32⟩
  | .hbm, ⟨66, _⟩ => ⟨S5632, .f32⟩
  | .hbm, ⟨67, _⟩ => ⟨S1x1x5632, .f32⟩
  | .hbm, ⟨68, _⟩ => ⟨S8x2048x5632, .f32⟩
  | .hbm, ⟨69, _⟩ => ⟨S8x2048x5632, .f32⟩
  | .hbm, ⟨70, _⟩ => ⟨S8x2048x5632, .f32⟩
  | .hbm, ⟨71, _⟩ => ⟨S8x2048x5632, .f32⟩
  | .hbm, ⟨72, _⟩ => ⟨S1x5632, .f32⟩
  | .hbm, ⟨73, _⟩ => ⟨S5632, .f32⟩
  | .hbm, ⟨74, _⟩ => ⟨S1x1x5632, .f32⟩
  | .hbm, ⟨75, _⟩ => ⟨S8x2048x5632, .f32⟩
  | .hbm, ⟨76, _⟩ => ⟨S8x2048x5632, .f32⟩
  | .hbm, ⟨77, _⟩ => ⟨S8x2048x5632, .f32⟩
  | .hbm, ⟨78, _⟩ => ⟨S1x1x5632, .f32⟩
  | .hbm, ⟨79, _⟩ => ⟨S8x2048x5632, .f32⟩
  | .hbm, ⟨80, _⟩ => ⟨S8x2048x5632, .f32⟩
  | .hbm, ⟨81, _⟩ => ⟨S8x2048x2816, .f32⟩
  | .hbm, ⟨82, _⟩ => ⟨S8x2048x2816, .f32⟩
  | .hbm, ⟨83, _⟩ => ⟨S8x1x1024, .f32⟩
  | .hbm, ⟨84, _⟩ => ⟨S8x2048x2816, .f32⟩
  | .hbm, ⟨85, _⟩ => ⟨S8x2048x2816, .f32⟩
  | .hbm, ⟨86, _⟩ => ⟨S_, .f32⟩
  | .hbm, ⟨87, _⟩ => ⟨S8x2048x2816, .f32⟩
  | .hbm, ⟨88, _⟩ => ⟨S8x2048x2816, .f32⟩
  | .hbm, ⟨89, _⟩ => ⟨S_, .f32⟩
  | .hbm, ⟨90, _⟩ => ⟨S8x2048x2816, .f32⟩
  | .hbm, ⟨91, _⟩ => ⟨S8x2048x2816, .f32⟩
  | .hbm, ⟨92, _⟩ => ⟨S8x2048x2816, .f32⟩
  | .hbm, ⟨93, _⟩ => ⟨S8x2048x2816, .f32⟩
  | .hbm, ⟨94, _⟩ => ⟨S8x2048x1024, .f32⟩
  | .hbm, ⟨95, _⟩ => ⟨S8x2048x1024, .f32⟩
  | .hbm, ⟨96, _⟩ => ⟨S8x2048x1024, .f32⟩
  | .hbm, ⟨97, _⟩ => ⟨S8x2048x1024, .f32⟩
  | .hbm, ⟨98, _⟩ => ⟨S8x2048x1024, .f32⟩
  | .hbm, ⟨99, _⟩ => ⟨S_, .f32⟩
  | .hbm, ⟨100, _⟩ => ⟨S8x2048, .f32⟩
  | .hbm, ⟨101, _⟩ => ⟨S8x2048x1, .f32⟩
  | .hbm, ⟨102, _⟩ => ⟨S_, .f32⟩
  | .hbm, ⟨103, _⟩ => ⟨S8x2048x1, .f32⟩
  | .hbm, ⟨104, _⟩ => ⟨S8x2048x1, .f32⟩
  | .hbm, ⟨105, _⟩ => ⟨S_, .f32⟩
  | .hbm, ⟨106, _⟩ => ⟨S8x2048x1, .f32⟩
  | .hbm, ⟨107, _⟩ => ⟨S8x2048x1, .f32⟩
  | .hbm, ⟨108, _⟩ => ⟨S8x2048x1, .f32⟩
  | .hbm, ⟨109, _⟩ => ⟨S8x2048x1024, .f32⟩
  | .hbm, ⟨110, _⟩ => ⟨S8x2048x1024, .f32⟩
  | .hbm, ⟨111, _⟩ => ⟨S1x1x1024, .f32⟩
  | .hbm, ⟨112, _⟩ => ⟨S8x2048x1024, .f32⟩
  | .hbm, ⟨113, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_cst_0 : Ref sig .tc := ⟨.hbm, 33, rfl⟩
abbrev main_v21 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_2 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c : Ref sig .tc := ⟨.hbm, 55, rfl⟩
abbrev main_call0_v0 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_call1_v0 : Ref sig .tc := ⟨.hbm, 84, rfl⟩
abbrev main_call1_v1 : Ref sig .tc := ⟨.hbm, 85, rfl⟩
abbrev main_call1_cst : Ref sig .tc := ⟨.hbm, 86, rfl⟩
abbrev main_call1_v2 : Ref sig .tc := ⟨.hbm, 87, rfl⟩
abbrev main_call1_v3 : Ref sig .tc := ⟨.hbm, 88, rfl⟩
abbrev main_call1_cst_0 : Ref sig .tc := ⟨.hbm, 89, rfl⟩
abbrev main_call1_v4 : Ref sig .tc := ⟨.hbm, 90, rfl⟩
abbrev main_call1_v5 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_3 : Ref sig .tc := ⟨.hbm, 99, rfl⟩
abbrev main_v74 : Ref sig .tc := ⟨.hbm, 100, rfl⟩
abbrev main_v75 : Ref sig .tc := ⟨.hbm, 101, rfl⟩
abbrev main_cst_4 : Ref sig .tc := ⟨.hbm, 102, rfl⟩
abbrev main_v76 : Ref sig .tc := ⟨.hbm, 103, rfl⟩
abbrev main_v77 : Ref sig .tc := ⟨.hbm, 104, rfl⟩
abbrev main_cst_5 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩

abbrev nD : Nat := 1
abbrev τ : Topo := Topo.v7x

variable {F : FTy → Type} [FloatOps F]
-- ==== Inproj.lean ====
abbrev S8x2048x1024 : Shape := ⟨3, ![8, 2048, 1024]⟩
abbrev S8x1x6144 : Shape := ⟨3, ![8, 1, 6144]⟩
abbrev S1024 : Shape := ⟨1, ![1024]⟩
abbrev S1024x2560 : Shape := ⟨2, ![1024, 2560]⟩
abbrev S4x512 : Shape := ⟨2, ![4, 512]⟩
abbrev S512 : Shape := ⟨1, ![512]⟩
abbrev S8x64x64 : Shape := ⟨3, ![8, 64, 64]⟩
abbrev S1024x1024 : Shape := ⟨2, ![1024, 1024]⟩
abbrev S1024x5632 : Shape := ⟨2, ![1024, 5632]⟩
abbrev S2816x1024 : Shape := ⟨2, ![2816, 1024]⟩
abbrev S1x1024 : Shape := ⟨2, ![1, 1024]⟩
abbrev S1x512 : Shape := ⟨2, ![1, 512]⟩
abbrev S8x2048x1536 : Shape := ⟨3, ![8, 2048, 1536]⟩
abbrev S8x2048x512 : Shape := ⟨3, ![8, 2048, 512]⟩
abbrev S8x128x1024 : Shape := ⟨3, ![8, 128, 1024]⟩
abbrev S64x1024 : Shape := ⟨2, ![64, 1024]⟩
abbrev S64x5632 : Shape := ⟨2, ![64, 5632]⟩
abbrev S176x1024 : Shape := ⟨2, ![176, 1024]⟩
abbrev S8x128x1536 : Shape := ⟨3, ![8, 128, 1536]⟩
abbrev S8x128x512 : Shape := ⟨3, ![8, 128, 512]⟩
abbrev S24x512 : Shape := ⟨2, ![24, 512]⟩
abbrev S8x512 : Shape := ⟨2, ![8, 512]⟩
abbrev S2x256x512 : Shape := ⟨3, ![2, 256, 512]⟩
abbrev S1024x256 : Shape := ⟨2, ![1024, 256]⟩
abbrev S1x64x64 : Shape := ⟨3, ![1, 64, 64]⟩
abbrev S64x64 : Shape := ⟨2, ![64, 64]⟩
abbrev S8x1x1024 : Shape := ⟨3, ![8, 1, 1024]⟩
abbrev S1x1x1024 : Shape := ⟨3, ![1, 1, 1024]⟩
abbrev S8x64x1024 : Shape := ⟨3, ![8, 64, 1024]⟩
abbrev S8x64 : Shape := ⟨2, ![8, 64]⟩
abbrev S8x64x1 : Shape := ⟨3, ![8, 64, 1]⟩
abbrev S512x1024 : Shape := ⟨2, ![512, 1024]⟩
abbrev S512x256 : Shape := ⟨2, ![512, 256]⟩
abbrev S8x64x256 : Shape := ⟨3, ![8, 64, 256]⟩
abbrev S8x8x256 : Shape := ⟨3, ![8, 8, 256]⟩
abbrev S64x256 : Shape := ⟨2, ![64, 256]⟩
abbrev S64x512 : Shape := ⟨2, ![64, 512]⟩
abbrev S88x512 : Shape := ⟨2, ![88, 512]⟩
abbrev S1x256x512 : Shape := ⟨3, ![1, 256, 512]⟩
abbrev S256x512 : Shape := ⟨2, ![256, 512]⟩
abbrev S8x8x512 : Shape := ⟨3, ![8, 8, 512]⟩
abbrev S1x8x512 : Shape := ⟨3, ![1, 8, 512]⟩

abbrev nBuf : Space → Nat
  | .hbm => 24
  | .vmem => 32
  | .smem => 0
  | _ => 0

abbrev bufTy : (tb : Table) → Fin (tcTables nBuf tb) → BufTy
  | .hbm, ⟨0, _⟩ => ⟨S8x2048x1024, .f32⟩
  | .hbm, ⟨1, _⟩ => ⟨S8x1x6144, .f32⟩
  | .hbm, ⟨2, _⟩ => ⟨S1024, .f32⟩
  | .hbm, ⟨3, _⟩ => ⟨S1024x2560, .f32⟩
  | .hbm, ⟨4, _⟩ => ⟨S4x512, .f32⟩
  | .hbm, ⟨5, _⟩ => ⟨S512, .f32⟩
  | .hbm, ⟨6, _⟩ => ⟨S8x64x64, .f32⟩
  | .hbm, ⟨7, _⟩ => ⟨S8x64x64, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S1024x1024, .f32⟩
  | .hbm, ⟨12, _⟩ => ⟨S1024x5632, .f32⟩
  | .hbm, ⟨13, _⟩ => ⟨S2816x1024, .f32⟩
  | .hbm, ⟨14, _⟩ => ⟨S1x1024, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S8x2048x1536, .bf16⟩
  | .hbm, ⟨20, _⟩ => ⟨S8x2048x512, .bf16⟩
  | .hbm, ⟨21, _⟩ => ⟨S1024x1024, .bf16⟩
  | .hbm, ⟨22, _⟩ => ⟨S1024x5632, .bf16⟩
  | .hbm, ⟨23, _⟩ => ⟨S2816x1024, .bf16⟩
  | .local _ .vmem, ⟨0, _⟩ => ⟨S8x128x1024, .f32⟩
  | .local _ .vmem, ⟨1, _⟩ => ⟨S8x128x1024, .f32⟩
  | .local _ .vmem, ⟨2, _⟩ => ⟨S8x1x6144, .f32⟩
  | .local _ .vmem, ⟨3, _⟩ => ⟨S1x1024, .f32⟩
  | .local _ .vmem, ⟨4, _⟩ => ⟨S1024x2560, .f32⟩
  | .local _ .vmem, ⟨5, _⟩ => ⟨S4x512, .f32⟩
  | .local _ .vmem, ⟨6, _⟩ => ⟨S1x512, .f32⟩
  | .local _ .vmem, ⟨7, _⟩ => ⟨S8x64x64, .f32⟩
  | .local _ .vmem, ⟨8, _⟩ => ⟨S8x64x64, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S64x1024, .f32⟩
  | .local _ .vmem, ⟨13, _⟩ => ⟨S64x1024, .f32⟩
  | .local _ .vmem, ⟨14, _⟩ => ⟨S64x5632, .f32⟩
  | .local _ .vmem, ⟨15, _⟩ => ⟨S64x5632, .f32⟩
  | .local _ .vmem, ⟨16, _⟩ => ⟨S176x1024, .f32⟩
  | .local _ .vmem, ⟨17, _⟩ => ⟨S176x1024, .f32⟩
  | .local _ .vmem, ⟨18, _⟩ => ⟨S8x128x1536, .bf16⟩
  | .local _ .vmem, ⟨19, _⟩ => ⟨S8x128x1536, .bf16⟩
  | .local _ .vmem, ⟨20, _⟩ => ⟨S8x128x512, .bf16⟩
  | .local _ .vmem, ⟨21, _⟩ => ⟨S8x128x512, .bf16⟩
  | .local _ .vmem, ⟨22, _⟩ => ⟨S64x1024, .bf16⟩
  | .local _ .vmem, ⟨23, _⟩ => ⟨S64x1024, .bf16⟩
  | .local _ .vmem, ⟨24, _⟩ => ⟨S64x5632, .bf16⟩
  | .local _ .vmem, ⟨25, _⟩ => ⟨S64x5632, .bf16⟩
  | .local _ .vmem, ⟨26, _⟩ => ⟨S176x1024, .bf16⟩
  | .local _ .vmem, ⟨27, _⟩ => ⟨S176x1024, .bf16⟩
  | .local _ .vmem, ⟨28, _⟩ => ⟨S24x512, .f32⟩
  | .local _ .vmem, ⟨29, _⟩ => ⟨S8x512, .f32⟩
  | .local _ .vmem, ⟨30, _⟩ => ⟨S1024x2560, .bf16⟩
  | .local _ .vmem, ⟨31, _⟩ => ⟨S2x256x512, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5_0 : Ref sig .tc := ⟨.hbm, 19, rfl⟩
abbrev main_v5_1 : Ref sig .tc := ⟨.hbm, 20, rfl⟩
abbrev main_v5_2 : Ref sig .tc := ⟨.hbm, 21, rfl⟩
abbrev main_v5_3 : Ref sig .tc := ⟨.hbm, 22, rfl⟩
abbrev main_v5_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x5632 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S176x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x128x1536 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x128x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S64x5632 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S176x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== InprojRefIdeal.lean ====
abbrev S8x2048x1024 : Shape := ⟨3, ![8, 2048, 1024]⟩
abbrev S8x1x6144 : Shape := ⟨3, ![8, 1, 6144]⟩
abbrev S1024 : Shape := ⟨1, ![1024]⟩
abbrev S1024x2560 : Shape := ⟨2, ![1024, 2560]⟩
abbrev S4x512 : Shape := ⟨2, ![4, 512]⟩
abbrev S512 : Shape := ⟨1, ![512]⟩
abbrev S8x64x64 : Shape := ⟨3, ![8, 64, 64]⟩
abbrev S1024x1024 : Shape := ⟨2, ![1024, 1024]⟩
abbrev S1024x5632 : Shape := ⟨2, ![1024, 5632]⟩
abbrev S2816x1024 : Shape := ⟨2, ![2816, 1024]⟩
abbrev S8x6144 : Shape := ⟨2, ![8, 6144]⟩
abbrev S8x1024 : Shape := ⟨2, ![8, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S1024x1536 : Shape := ⟨2, ![1024, 1536]⟩
abbrev S8x2048x1536 : Shape := ⟨3, ![8, 2048, 1536]⟩
abbrev S8x2048x512 : Shape := ⟨3, ![8, 2048, 512]⟩

abbrev nBuf : Space → Nat
  | .hbm => 62
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1x6144, .f32⟩
  | .hbm, ⟨2, _⟩ => ⟨S1024, .f32⟩
  | .hbm, ⟨3, _⟩ => ⟨S1024x2560, .f32⟩
  | .hbm, ⟨4, _⟩ => ⟨S4x512, .f32⟩
  | .hbm, ⟨5, _⟩ => ⟨S512, .f32⟩
  | .hbm, ⟨6, _⟩ => ⟨S8x64x64, .f32⟩
  | .hbm, ⟨7, _⟩ => ⟨S8x64x64, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S1024x1024, .f32⟩
  | .hbm, ⟨12, _⟩ => ⟨S1024x5632, .f32⟩
  | .hbm, ⟨13, _⟩ => ⟨S2816x1024, .f32⟩
  | .hbm, ⟨14, _⟩ => ⟨S8x6144, .f32⟩
  | .hbm, ⟨15, _⟩ => ⟨S8x1024, .f32⟩
  | .hbm, ⟨16, _⟩ => ⟨S8x1024, .f32⟩
  | .hbm, ⟨17, _⟩ => ⟨S8x1024, .f32⟩
  | .hbm, ⟨18, _⟩ => ⟨S8x1024, .f32⟩
  | .hbm, ⟨19, _⟩ => ⟨S8x1024, .f32⟩
  | .hbm, ⟨20, _⟩ => ⟨S8x1024, .f32⟩
  | .hbm, ⟨21, _⟩ => ⟨S8x2048x1024, .f32⟩
  | .hbm, ⟨22, _⟩ => ⟨S_, .f32⟩
  | .hbm, ⟨23, _⟩ => ⟨S8x2048, .f32⟩
  | .hbm, ⟨24, _⟩ => ⟨S8x2048x1, .f32⟩
  | .hbm, ⟨25, _⟩ => ⟨S_, .f32⟩
  | .hbm, ⟨26, _⟩ => ⟨S8x2048x1, .f32⟩
  | .hbm, ⟨27, _⟩ => ⟨S8x2048x1, .f32⟩
  | .hbm, ⟨28, _⟩ => ⟨S_, .f32⟩
  | .hbm, ⟨29, _⟩ => ⟨S8x2048x1, .f32⟩
  | .hbm, ⟨30, _⟩ => ⟨S8x2048x1, .f32⟩
  | .hbm, ⟨31, _⟩ => ⟨S8x2048x1, .f32⟩
  | .hbm, ⟨32, _⟩ => ⟨S8x2048x1024, .f32⟩
  | .hbm, ⟨33, _⟩ => ⟨S8x2048x1024, .f32⟩
  | .hbm, ⟨34, _⟩ => ⟨S1x1x1024, .f32⟩
  | .hbm, ⟨35, _⟩ => ⟨S8x2048x1024, .f32⟩
  | .hbm, ⟨36, _⟩ => ⟨S8x2048x1024, .f32⟩
  | .hbm, ⟨37, _⟩ => ⟨S8x1x1024, .f32⟩
  | .hbm, ⟨38, _⟩ => ⟨S_, .f32⟩
  | .hbm, ⟨39, _⟩ => ⟨S8x1x1024, .f32⟩
  | .hbm, ⟨40, _⟩ => ⟨S8x1x1024, .f32⟩
  | .hbm, ⟨41, _⟩ => ⟨S8x2048x1024, .f32⟩
  | .hbm, ⟨42, _⟩ => ⟨S8x2048x1024, .f32⟩
  | .hbm, ⟨43, _⟩ => ⟨S8x1x1024, .f32⟩
  | .hbm, ⟨44, _⟩ => ⟨S8x2048x1024, .f32⟩
  | .hbm, ⟨45, _⟩ => ⟨S8x2048x1024, .f32⟩
  | .hbm, ⟨46, _⟩ => ⟨S1024x1536, .f32⟩
  | .hbm, ⟨47, _⟩ => ⟨S8x2048x1536, .f32⟩
  | .hbm, ⟨48, _⟩ => ⟨S8x2048x512, .f32⟩
  | .hbm, ⟨49, _⟩ => ⟨S8x2048x512, .f32⟩
  | .hbm, ⟨50, _⟩ => ⟨S8x2048x512, .f32⟩
  | .hbm, ⟨51, _⟩ => ⟨S_, .f32⟩
  | .hbm, ⟨52, _⟩ => ⟨S8x2048x512, .f32⟩
  | .hbm, ⟨53, _⟩ => ⟨S8x2048x512, .f32⟩
  | .hbm, ⟨54, _⟩ => ⟨S_, .f32⟩
  | .hbm, ⟨55, _⟩ => ⟨S8x2048x512, .f32⟩
  | .hbm, ⟨56, _⟩ => ⟨S8x2048x512, .f32⟩
  | .hbm, ⟨57, _⟩ => ⟨S8x2048x1536, .f32⟩
  | .hbm, ⟨58, _⟩ => ⟨S8x2048x1536, .bf16⟩
  | .hbm, ⟨59, _⟩ => ⟨S1024x1024, .bf16⟩
  | .hbm, ⟨60, _⟩ => ⟨S1024x5632, .bf16⟩
  | .hbm, ⟨61, _⟩ => ⟨S2816x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_cst_4 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]
-- ==== Ada.lean ====
abbrev S8x1024 : Shape := ⟨2, ![8, 1024]⟩
abbrev S1024x6144 : Shape := ⟨2, ![1024, 6144]⟩
abbrev S6144 : Shape := ⟨1, ![6144]⟩
abbrev S1x6144 : Shape := ⟨2, ![1, 6144]⟩
abbrev S8x1x6144 : Shape := ⟨3, ![8, 1, 6144]⟩
abbrev S1024x1024 : Shape := ⟨2, ![1024, 1024]⟩
abbrev S1x1024 : Shape := ⟨2, ![1, 1024]⟩
abbrev S8x1x1024 : Shape := ⟨3, ![8, 1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S8x1x6144, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1x1024, .f32⟩
  | .local _ .vmem, ⟨6, _⟩ => ⟨S8x1x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S8x1024 : Shape := ⟨2, ![8, 1024]⟩
abbrev S1024x6144 : Shape := ⟨2, ![1024, 6144]⟩
abbrev S6144 : Shape := ⟨1, ![6144]⟩
abbrev S_ : Shape := ⟨0, ![]⟩
abbrev S8x6144 : Shape := ⟨2, ![8, 6144]⟩
abbrev S1x6144 : Shape := ⟨2, ![1, 6144]⟩
abbrev S8x1x6144 : Shape := ⟨3, ![8, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x6144, .f32⟩
  | .hbm, ⟨13, _⟩ => ⟨S1x6144, .f32⟩
  | .hbm, ⟨14, _⟩ => ⟨S8x6144, .f32⟩
  | .hbm, ⟨15, _⟩ => ⟨S8x6144, .f32⟩
  | .hbm, ⟨16, _⟩ => ⟨S8x1x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.Ffn.Spec.lean ====
/- The output projection and the ConvFFN of the layer as plain functions of plain indices, in the association the kernel
   computes them in; both the kernel's blocks and the reference's stages are read against these. -/
module

public import Idealize.ShloMosaic.Lib.Pipeline.ValueKit

@[expose] public section

noncomputable section

namespace Cert.FfnProof

open Idealize.ShloMosaic

/-- The arguments as functions of plain indices: the residual stream `x`, the two mixers' results `yr` and `ya`, the
    modulation rows `md`, the two norms' gains `n2` and `fg`, the weights `wo`, `wu`, `wd`, and the convolution's taps `cw`
    and bias `cb`. -/
structure Par where
  x : ℕ → ℕ → ℕ → EReal
  yr : ℕ → ℕ → ℕ → EReal
  ya : ℕ → ℕ → ℕ → EReal
  md : ℕ → ℕ → EReal
  n2 : ℕ → EReal
  fg : ℕ → EReal
  wo : ℕ → ℕ → EReal
  wu : ℕ → ℕ → EReal
  cw : ℕ → ℕ → EReal
  cb : ℕ → EReal
  wd : ℕ → ℕ → EReal

/-- The norm's divisor, the row length 1024. -/
def c1024 : EReal := Ideal.ofBits .f32 0x44800000#32
/-- The norm's epsilon. -/
def eps : EReal := Ideal.ofBits .f32 0x358637BD#32
/-- One half, the scale of the gate's half of the convolution. -/
def half : EReal := Ideal.ofBits .f32 0x3F000000#32
/-- One, the scale of the value's half of the convolution. -/
def one : EReal := Ideal.ofBits .f32 0x3F800000#32

/-- The reciprocal root mean square of a row. -/
def rms (v : ℕ → EReal) : EReal := Ideal.rsqrt (Ideal.div (∑ d : Fin 1024, v d * v d) c1024 + eps)

namespace Par

variable (p : Par)

/-- The output projection of both mixers' results. -/
def Y (b t d : ℕ) : EReal := (∑ e : Fin 512, p.yr b t e * p.wo e d) + ∑ e : Fin 512, p.ya b t e * p.wo (512 + e) d

/-- The residual stream after the mixers. -/
def X1 (b t d : ℕ) : EReal := p.x b t d + p.md b (2048 + d) * p.Y b t d

/-- The second norm's gain with the modulation's scale. -/
def gain (b d : ℕ) : EReal := p.n2 d * (1 + p.md b (4096 + d))

/-- The normed and modulated row. -/
def HN (b t d : ℕ) : EReal := p.X1 b t d * rms (p.X1 b t) * p.gain b d + p.md b (3072 + d)

/-- The up projection. -/
def UP (b t f : ℕ) : EReal := ∑ d : Fin 1024, p.HN b t d * p.wu d f

/-- The up projection with two rows of zeros before it. -/
def UH (b j f : ℕ) : EReal := if j < 2 then 0 else p.UP b (j - 2) f

/-- The causal depthwise convolution of width three, its taps and its bias scaled by `s`. -/
def CV (s : EReal) (b t f : ℕ) : EReal :=
  s * p.cb f + p.UH b t f * (s * p.cw 0 f) + p.UH b (t + 1) f * (s * p.cw 1 f) + p.UH b (t + 2) f * (s * p.cw 2 f)

/-- The gated activation, from half the gate and the value. -/
def gate (h v : EReal) : EReal := (h + h * Ideal.tanh h) * v

/-- The activation of hidden feature `f`. -/
def ACT (b t f : ℕ) : EReal := gate (p.CV half b t f) (p.CV one b t (2816 + f))

/-- The down projection's part over `n` features from feature `c` on. -/
def DN (n c b t d : ℕ) : EReal := ∑ f : Fin n, p.ACT b t (c + f) * p.wd (c + f) d

/-- The down projection, in the kernel's three parts. -/
def Z (b t d : ℕ) : EReal := p.DN 256 0 b t d + p.DN 1280 256 b t d + p.DN 1280 1536 b t d

/-- The residual stream after the ConvFFN. -/
def X2 (b t d : ℕ) : EReal := p.X1 b t d + p.md b (5120 + d) * p.Z b t d

/-- The layer's result. -/
def OUT (b t d : ℕ) : EReal := p.X2 b t d * rms (p.X2 b t) * p.fg d

end Par

end Cert.FfnProof

end
-- ==== Proof.Ffn.Block.lean ====
/- What the kernel's body computes from one block, as operations on vectors, each read against the layer's plain functions:
   if the operands hold a stretch of rows of the layer's intermediate results, so does the operation's result. Row `r` of
   a flattened tile is time `r / 8` of batch `r % 8`. -/
module

public import proofs.«01_k».proof.Proof.Gen.FfnIdeal.Skeleton
public import proofs.«01_k».proof.Proof.Ffn.Spec

@[expose] public section

set_option maxRecDepth 16384

noncomputable section

namespace Cert.FfnProof

open Idealize.ShloMosaic Idealize.ShloMosaic.TcCoe Idealize.SL.Sem
open Cert.FfnIdeal Cert.FfnIdeal.Gen

/-! ## The two widths of the hidden features' stretches -/

/-- The shape facts and the two contractions of a stretch of `n` hidden features. -/
class Wid (n : ℕ) where
  hb : (⟨2, ![1, n]⟩ : Shape).Broadcasts ⟨2, ![512, n]⟩
  hs0 : (⟨2, ![528, n]⟩ : Shape).Slices ![0, 0] ⟨2, ![512, n]⟩
  hs8 : (⟨2, ![528, n]⟩ : Shape).Slices ![8, 0] ⟨2, ![512, n]⟩
  hs16 : (⟨2, ![528, n]⟩ : Shape).Slices ![16, 0] ⟨2, ![512, n]⟩
  hs512 : (⟨2, ![528, n]⟩ : Shape).Slices ![512, 0] ⟨2, ![16, n]⟩
  hcat : Shape.Concatenates [(⟨2, ![16, n]⟩ : Shape), ⟨2, ![512, n]⟩] ⟨2, ![528, n]⟩ 0
  hc : (⟨2, ![1, n]⟩ : Shape).ShapeCasts ⟨2, ![1, n]⟩
  hst : (⟨2, ![16, n]⟩ : Shape).ShapeCasts ⟨2, ![16, n]⟩
  up : DotDims S512x1024 ⟨2, ![1024, n]⟩ ⟨2, ![512, n]⟩
  dn : DotDims ⟨2, ![512, n]⟩ ⟨2, ![n, 1024]⟩ S512x1024
  up_at : ∀ (a : FVec Ideal S512x1024 .bf16) (w : FVec Ideal ⟨2, ![1024, n]⟩ .bf16) (r : Fin 512) (f : Fin n),
    matmul up none a w (constant ⟨2, ![512, n]⟩ .f32 0x00000000#32) (ix2 r f) = ∑ k : Fin 1024, a (ix2 r k) * w (ix2 k f)
  dn_at : ∀ (a : FVec Ideal ⟨2, ![512, n]⟩ .bf16) (w : FVec Ideal ⟨2, ![n, 1024]⟩ .bf16) (r : Fin 512) (d : Fin 1024),
    matmul dn none a w (constant S512x1024 .f32 0x00000000#32) (ix2 r d) = ∑ k : Fin n, a (ix2 r k) * w (ix2 k d)

instance wid256 : Wid 256 where
  hb := broadcasts_S1x256_S512x256
  hs0 := slices_S528x256_o0_0_S512x256
  hs8 := slices_S528x256_o8_0_S512x256
  hs16 := slices_S528x256_o16_0_S512x256
  hs512 := slices_S528x256_o512_0_S16x256
  hcat := concatenates_S16x256_S512x256_S528x256_d0
  hc := shapeCasts_S1x256_S1x256
  hst := shapeCasts_S16x256_S16x256
  up := dot_S512x1024_S1024x256_S512x256_1_0_0_1_n_n
  dn := dot_S512x256_S256x1024_S512x1024_1_0_0_1_n_n
  up_at a w r f := by pointwise
  dn_at a w r f := by pointwise

instance wid1280 : Wid 1280 where
  hb := broadcasts_S1x1280_S512x1280
  hs0 := slices_S528x1280_o0_0_S512x1280
  hs8 := slices_S528x1280_o8_0_S512x1280
  hs16 := slices_S528x1280_o16_0_S512x1280
  hs512 := slices_S528x1280_o512_0_S16x1280
  hcat := concatenates_S16x1280_S512x1280_S528x1280_d0
  hc := shapeCasts_S1x1280_S1x1280
  hst := shapeCasts_S16x1280_S16x1280
  up := dot_S512x1024_S1024x1280_S512x1280_1_0_0_1_n_n
  dn := dot_S512x1280_S1280x1024_S512x1024_1_0_0_1_n_n
  up_at a w r f := by pointwise
  dn_at a w r f := by pointwise

/-! ## The operations -/

/-- A batch row of modulation broadcast over the rows of a piece. -/
abbrev rowsV (v : FVec Ideal S8x1x1024 .f32) : FVec Ideal S8x16x1024 .f32 :=
  broadcastTo S8x16x1024 v broadcasts_S8x1x1024_S8x16x1024

/-- The reciprocal root mean square of every row of a piece. -/
abbrev rmsV (v : FVec Ideal S8x16x1024 .f32) : FVec Ideal S8x16x1 .f32 :=
  rsqrt (addf (divf (shapeCast S8x16x1 (multiReduction .add [2] S8x16 (mulf v v) 0x00000000#32 reduces_S8x16x1024_S8x16 (.inl rfl) rfl)
    shapeCasts_S8x16_S8x16x1) (broadcast S8x16x1 (Scalar.ofBits .f32 0x44800000#32))) (broadcast S8x16x1 (Scalar.ofBits .f32 0x358637BD#32)))

/-- A piece divided by its rows' root mean square. -/
abbrev normV (v : FVec Ideal S8x16x1024 .f32) : FVec Ideal S8x16x1024 .f32 :=
  mulf v (broadcastTo S8x16x1024 (rmsV v) broadcasts_S8x16x1_S8x16x1024)

/-- The output projection of a tile. -/
abbrev projV (a c : FVec Ideal S8x64x512 .bf16) (w u : FVec Ideal S512x1024 .bf16) : FVec Ideal S8x64x1024 .f32 :=
  shapeCast S8x64x1024 (addf
    (matmul dot_S512x512_S512x1024_S512x1024_1_0_0_1_n_n none (shapeCast S512x512 a shapeCasts_S8x64x512_S512x512) w (constant S512x1024 .f32 0x00000000#32))
    (matmul dot_S512x512_S512x1024_S512x1024_1_0_0_1_n_n none (shapeCast S512x512 c shapeCasts_S8x64x512_S512x512) u (constant S512x1024 .f32 0x00000000#32)))
    shapeCasts_S512x1024_S8x64x1024

/-- A piece of the residual stream: the input's piece and the gated projection's piece at row `o` of its tile. -/
abbrev residV (o : ℕ) (h : S8x64x1024.Slices ![0, o, 0] S8x16x1024) (g : FVec Ideal S8x1x1024 .f32)
    (y : FVec Ideal S8x64x1024 .f32) (x : FVec Ideal S8x16x1024 .f32) : FVec Ideal S8x16x1024 .f32 :=
  addf x (mulf (rowsV g) (extractStridedSlice S8x16x1024 ![0, o, 0] y h))

/-- A piece normed, modulated, and flattened with the batch innermost. -/
abbrev headV (sh gn : FVec Ideal S8x1x1024 .f32) (x : FVec Ideal S8x16x1024 .f32) : FVec Ideal S128x1024 .bf16 :=
  truncf .bf16 (shapeCast S128x1024 (transpose S16x8x1024 [1, 0, 2] (addf (mulf (normV x) (rowsV gn)) (rowsV sh))
    transposes_S8x16x1024_p1_0_2_S16x8x1024) shapeCasts_S16x8x1024_S128x1024) bitsLt_bf16_f32

/-- Four flattened pieces as one tile. -/
abbrev tileV (a b c d : FVec Ideal S128x1024 .bf16) : FVec Ideal S512x1024 .bf16 :=
  concatenate S512x1024 0 [⟨S128x1024, a⟩, ⟨S128x1024, b⟩, ⟨S128x1024, c⟩, ⟨S128x1024, d⟩]
    concatenates_S128x1024_S128x1024_S128x1024_S128x1024_S512x1024_d0

/-- The last piece of the result: added to the residual stream, normed and scaled. -/
abbrev tailV (o : ℕ) (h : S512x1024.Slices ![o, 0] S128x1024) (g : FVec Ideal S8x1x1024 .f32) (x : FVec Ideal S8x16x1024 .f32)
    (z : FVec Ideal S512x1024 .f32) (fg : FVec Ideal S1x1024 .f32) : FVec Ideal S8x16x1024 .f32 :=
  mulf (normV (addf x (mulf (rowsV g) (transpose S8x16x1024 [1, 0, 2] (shapeCast S16x8x1024 (extractStridedSlice S128x1024 ![o, 0] z h)
    shapeCasts_S128x1024_S16x8x1024) transposes_S16x8x1024_p1_0_2_S8x16x1024))))
    (broadcastTo S8x16x1024 (shapeCast S1x1x1024 (shapeCast S1x1024 fg shapeCasts_S1x1024_S1x1024) shapeCasts_S1x1024_S1x1x1024)
      broadcasts_S1x1x1024_S8x16x1024)

section Width

variable {n : ℕ} [Wid n]

/-- The up projection of a tile onto a stretch of features. -/
abbrev upV (hb : FVec Ideal S512x1024 .bf16) (w : FVec Ideal ⟨2, ![1024, n]⟩ .bf16) : FVec Ideal ⟨2, ![512, n]⟩ .f32 :=
  matmul Wid.up none hb w (constant ⟨2, ![512, n]⟩ .f32 0x00000000#32)

/-- The two times kept from the tile before, and a tile. -/
abbrev extV (t : FVec Ideal ⟨2, ![16, n]⟩ .f32) (u : FVec Ideal ⟨2, ![512, n]⟩ .f32) : FVec Ideal ⟨2, ![528, n]⟩ .f32 :=
  concatenate ⟨2, ![528, n]⟩ 0 [⟨⟨2, ![16, n]⟩, t⟩, ⟨⟨2, ![512, n]⟩, u⟩] Wid.hcat

/-- The last two times of an extended tile. -/
abbrev lastV (e : FVec Ideal ⟨2, ![528, n]⟩ .f32) : FVec Ideal ⟨2, ![16, n]⟩ .f32 :=
  extractStridedSlice ⟨2, ![16, n]⟩ ![512, 0] e Wid.hs512

/-- A scaled row broadcast over a tile. -/
abbrev scaleV (s : BitVec 32) (w : FVec Ideal ⟨2, ![1, n]⟩ .f32) : FVec Ideal ⟨2, ![512, n]⟩ .f32 :=
  broadcastTo ⟨2, ![512, n]⟩ (mulf (broadcast ⟨2, ![1, n]⟩ (Scalar.ofBits .f32 s)) w) Wid.hb

/-- The convolution of an extended tile, its taps and bias scaled. -/
abbrev convV (s : BitVec 32) (e : FVec Ideal ⟨2, ![528, n]⟩ .f32) (b w0 w1 w2 : FVec Ideal ⟨2, ![1, n]⟩ .f32) : FVec Ideal ⟨2, ![512, n]⟩ .f32 :=
  addf (addf (addf (scaleV s (shapeCast ⟨2, ![1, n]⟩ b Wid.hc)) (mulf (extractStridedSlice ⟨2, ![512, n]⟩ ![0, 0] e Wid.hs0) (scaleV s w0)))
    (mulf (extractStridedSlice ⟨2, ![512, n]⟩ ![8, 0] e Wid.hs8) (scaleV s w1)))
    (mulf (extractStridedSlice ⟨2, ![512, n]⟩ ![16, 0] e Wid.hs16) (scaleV s w2))

/-- The gated activation of a tile. -/
abbrev actV (h u : FVec Ideal ⟨2, ![512, n]⟩ .f32) : FVec Ideal ⟨2, ![512, n]⟩ .bf16 :=
  truncf .bf16 (mulf (addf h (mulf h (tanh h))) u) bitsLt_bf16_f32

/-- The down projection of a stretch of features. -/
abbrev downV (a : FVec Ideal ⟨2, ![512, n]⟩ .bf16) (w : FVec Ideal ⟨2, ![n, 1024]⟩ .bf16) : FVec Ideal S512x1024 .f32 :=
  matmul Wid.dn none a w (constant S512x1024 .f32 0x00000000#32)

end Width

/-! ## What the operands and results hold -/

variable (p : Par)

/-- A batch row `v` holds `F`. -/
def IsRow (F : ℕ → ℕ → EReal) (v : FVec Ideal S8x1x1024 .f32) : Prop := ∀ (b : Fin 8) (d : Fin 1024), v (ix3 b 0 d) = F b d

/-- A piece `v` of 16 times holds `F` from time `t` on. -/
def IsPiece (F : ℕ → ℕ → ℕ → EReal) (t : ℕ) (v : FVec Ideal S8x16x1024 .f32) : Prop :=
  ∀ (b : Fin 8) (τ : Fin 16) (d : Fin 1024), v (ix3 b τ d) = F b (t + τ) d

/-- A flattened vector `v` of `m` rows and `n` columns holds `F` from time `t` and column `c` on. -/
def IsFlat {m n : ℕ} {φ : FTy} (F : ℕ → ℕ → ℕ → EReal) (t c : ℕ) (v : FVec Ideal ⟨2, ![m, n]⟩ φ) : Prop :=
  ∀ (r : Fin m) (f : Fin n), v (ix2 r f) = F (r % 8) (t + r / 8) (c + f)

/-- A matrix `v` holds `F` from row `k` and column `c` on. -/
def IsMat {m n : ℕ} {φ : FTy} (F : ℕ → ℕ → EReal) (k c : ℕ) (v : FVec Ideal ⟨2, ![m, n]⟩ φ) : Prop :=
  ∀ (r : Fin m) (f : Fin n), v (ix2 r f) = F (k + r) (c + f)

theorem eq3 (F : ℕ → ℕ → ℕ → EReal) {a a' b b' c c' : ℕ} (ha : a = a') (hb : b = b') (hc : c = c') : F a b c = F a' b' c' := by
  subst ha hb hc; rfl

theorem rms_congr {v : Fin 1024 → EReal} {w : ℕ → EReal} (h : ∀ d : Fin 1024, v d = w d) :
    Ideal.rsqrt (Ideal.div (∑ d, v d * v d) (Ideal.ofBits .f32 0x44800000#32) + Ideal.ofBits .f32 0x358637BD#32) = rms w := by
  unfold rms c1024 eps
  simp only [h]

/-- The modulated gain. -/
theorem gain_is {v5 : FVec Ideal S1x1024 .f32} {v7 : FVec Ideal S8x1x1024 .f32} (h5 : IsMat (fun _ d => p.n2 d) 0 0 v5) (h7 : IsRow (fun b d => p.md b (4096 + d)) v7) :
    IsRow p.gain (k0_pay4 (F := Ideal) v5 v7) := by
  intro b d
  pointwise [k0_pay4]
  rw [h7, h5]
  simp [Par.gain]

/-- The output projection of a tile that starts at time `t`. -/
theorem proj_is {t : ℕ} {a c : FVec Ideal S8x64x512 .bf16} {w u : FVec Ideal S512x1024 .bf16}
    (ha : ∀ (b : Fin 8) (τ : Fin 64) (e : Fin 512), a (ix3 b τ e) = p.yr b (t + τ) e)
    (hc : ∀ (b : Fin 8) (τ : Fin 64) (e : Fin 512), c (ix3 b τ e) = p.ya b (t + τ) e)
    (hw : IsMat p.wo 0 0 w) (hu : IsMat p.wo 512 0 u) (b : Fin 8) (τ : Fin 64) (d : Fin 1024) :
    projV a c w u (ix3 b τ d) = p.Y b (t + τ) d := by
  pointwise
  simp only [ha, hc, hw _ _, hu _ _, zero_add, Par.Y]

/-- A piece of the residual stream. -/
theorem resid_is {t o : ℕ} {h} {g y x} (hg : IsRow (fun b d => p.md b (2048 + d)) g)
    (hy : ∀ (b : Fin 8) (τ : Fin 64) (d : Fin 1024), y (ix3 b τ d) = p.Y b (t + τ) d) (hx : IsPiece p.x (t + o) x) (ho : o + 16 ≤ 64) :
    IsPiece p.X1 (t + o) (residV o h g y x) := by
  intro b τ d
  pointwise
  rw [hy, hg, hx]
  simp only [Par.X1, Nat.add_assoc]

/-- A normed piece, at an index. -/
theorem norm_at {F : ℕ → ℕ → ℕ → EReal} {t : ℕ} {v} (h : IsPiece F t v) (b : Fin 8) (τ : Fin 16) (d : Fin 1024) :
    normV v (ix3 b τ d) = F b (t + τ) d * rms (F b (t + τ)) := by
  pointwise
  rw [rms_congr (h b τ), h]

/-- A flattened piece of the normed and modulated rows. -/
theorem head_is {t : ℕ} {sh gn x} (hs : IsRow (fun b d => p.md b (3072 + d)) sh) (hg : IsRow p.gain gn) (hx : IsPiece p.X1 t x) :
    IsFlat p.HN t 0 (headV sh gn x) := by
  intro r d
  have e := norm_at hx ⟨r % 8, by omega⟩ ⟨r / 8, by omega⟩ d
  pointwise at e ⊢
  rw [e, hs, hg]
  simp [Par.HN]

/-- A tile of four flattened pieces. -/
theorem tile_is {F : ℕ → ℕ → ℕ → EReal} {t : ℕ} {a b c d : FVec Ideal S128x1024 .bf16} (ha : IsFlat F t 0 a) (hb : IsFlat F (t + 16) 0 b)
    (hc : IsFlat F (t + 32) 0 c) (hd : IsFlat F (t + 48) 0 d) : IsFlat F t 0 (tileV a b c d) := by
  intro r k
  pointwise
  split_ifs
  all_goals first
    | exact (ha _ _).trans (eq3 F rfl rfl (Nat.zero_add _))
    | exact (hb _ _).trans (eq3 F (by dsimp only; omega) (by dsimp only; omega) (Nat.zero_add _))
    | exact (hc _ _).trans (eq3 F (by dsimp only; omega) (by dsimp only; omega) (Nat.zero_add _))
    | exact (hd _ _).trans (eq3 F (by dsimp only; omega) (by dsimp only; omega) (Nat.zero_add _))

/-- A piece of the result. -/
theorem tail_is {t o q : ℕ} {h} {g x z fg} (hg : IsRow (fun b d => p.md b (5120 + d)) g) (hx : IsPiece p.X1 (t + q) x)
    (hz : IsFlat p.Z t 0 z) (hf : IsMat (fun _ d => p.fg d) 0 0 fg) (ho : o = 8 * q) (hq : q + 16 ≤ 64) :
    IsPiece p.OUT (t + q) (tailV o h g x z fg) := by
  subst ho
  have e : IsPiece p.X2 (t + q) (addf x (mulf (rowsV g) (transpose S8x16x1024 [1, 0, 2] (shapeCast S16x8x1024 (extractStridedSlice S128x1024 ![8 * q, 0] z h)
      shapeCasts_S128x1024_S16x8x1024) transposes_S16x8x1024_p1_0_2_S8x16x1024))) := by
    intro b τ d
    pointwise
    rw [hz, hg, hx]
    have h1 : (8 * q + (τ.val * 8 + b.val)) % 8 = b := by omega
    have h2 : t + (8 * q + (τ.val * 8 + b.val)) / 8 = t + q + τ := by omega
    simp only [Par.X2, h1, h2, zero_add]
  intro b τ d
  have e2 := norm_at e b τ d
  pointwise at e2 ⊢
  rw [e2, hf]
  simp [Par.OUT]

section Width

variable {n : ℕ} [Wid n]

/-- The up projection of a tile. -/
theorem up_is {t c : ℕ} {hb : FVec Ideal S512x1024 .bf16} {w : FVec Ideal ⟨2, ![1024, n]⟩ .bf16} (h : IsFlat p.HN t 0 hb) (hw : IsMat p.wu 0 c w) :
    IsFlat p.UP t c (upV hb w) := by
  intro r f
  refine (Wid.up_at hb w r f).trans ?_
  simp only [h _ _, hw _ _, zero_add, Par.UP]

theorem norm_ix {m k : ℕ} (i : (⟨2, ![m, k]⟩ : Shape).Idx) (a : Fin m) (b : Fin k) (ha : (i 0).val = a) (hb : (i 1).val = b) : Shape.Idx.norm i = ix2 a b := by
  funext x
  match x with
  | ⟨0, _⟩ => exact Fin.ext ha
  | ⟨1, _⟩ => exact Fin.ext hb

/-- An extended tile: its rows are those of the padded up projection. -/
theorem ext_is {t c : ℕ} {k : FVec Ideal ⟨2, ![16, n]⟩ .f32} {u : FVec Ideal ⟨2, ![512, n]⟩ .f32} (hk : IsFlat p.UH t c k) (hu : IsFlat p.UP t c u) :
    IsFlat p.UH t c (extV k u) := by
  intro r f
  pointwise
  split_ifs with h
  · rw [norm_ix _ ⟨r, h⟩ f rfl rfl]; exact hk _ _
  · rw [norm_ix _ ⟨r - 16, by omega⟩ f rfl rfl, hu]
    have h1 : (r.val - 16) % 8 = r.val % 8 := by omega
    have h2 : t + r.val / 8 - 2 = t + (r.val - 16) / 8 := by omega
    rw [Par.UH, if_neg (by omega), h2]
    simp only [h1]

/-- The last two times of an extended tile. -/
theorem last_is {t c : ℕ} {e : FVec Ideal ⟨2, ![528, n]⟩ .f32} (he : IsFlat p.UH t c e) : IsFlat p.UH (t + 64) c (lastV e) := by
  intro r f
  pointwise
  rw [norm_ix _ ⟨512 + r, by omega⟩ f rfl (Nat.zero_add _), he]
  have h1 : (512 + r.val) % 8 = r.val % 8 := by omega
  have h2 : t + (512 + r.val) / 8 = t + 64 + r.val / 8 := by omega
  simp only [h1, h2]

/-- A scaled row, at an index. -/
theorem scale_at {s : BitVec 32} (w : FVec Ideal ⟨2, ![1, n]⟩ .f32) (r : Fin 512) (f : Fin n) :
    scaleV s w (ix2 r f) = Ideal.ofBits .f32 s * w (ix2 0 f) := by
  pointwise
  rw [norm_ix _ 0 f (by simp) (by
    simp only [ix2]
    split_ifs with h
    · have : n = 1 := h
      have := f.isLt; show 0 = f.val; omega
    · rfl)]

/-- The convolution of an extended tile. -/
theorem conv_is {s : BitVec 32} {t c : ℕ} {e : FVec Ideal ⟨2, ![528, n]⟩ .f32} {b w0 w1 w2 : FVec Ideal ⟨2, ![1, n]⟩ .f32} (he : IsFlat p.UH t c e)
    (hb : IsMat (fun _ f => p.cb f) 0 c b) (h0 : IsMat p.cw 0 c w0) (h1 : IsMat p.cw 1 c w1) (h2 : IsMat p.cw 2 c w2) :
    IsFlat (p.CV (Ideal.ofBits .f32 s)) t c (convV s e b w0 w1 w2) := by
  intro r f
  have e0 : extractStridedSlice ⟨2, ![512, n]⟩ ![0, 0] e Wid.hs0 (ix2 r f) = e (ix2 ⟨r, by omega⟩ f) := by
    pointwise; rw [norm_ix _ ⟨r, by omega⟩ f (Nat.zero_add _) (Nat.zero_add _)]
  have e1 : extractStridedSlice ⟨2, ![512, n]⟩ ![8, 0] e Wid.hs8 (ix2 r f) = e (ix2 ⟨8 + r, by omega⟩ f) := by
    pointwise; rw [norm_ix _ ⟨8 + r, by omega⟩ f rfl (Nat.zero_add _)]
  have e2 : extractStridedSlice ⟨2, ![512, n]⟩ ![16, 0] e Wid.hs16 (ix2 r f) = e (ix2 ⟨16 + r, by omega⟩ f) := by
    pointwise; rw [norm_ix _ ⟨16 + r, by omega⟩ f rfl (Nat.zero_add _)]
  have eb : shapeCast ⟨2, ![1, n]⟩ b Wid.hc (ix2 0 f) = b (ix2 0 f) := by pointwise
  show scaleV s _ _ + _ * scaleV s _ _ + _ * scaleV s _ _ + _ * scaleV s _ _ = _
  rw [scale_at, scale_at, scale_at, scale_at, e0, e1, e2, eb, he, he, he, hb, h0, h1, h2]
  have k1 : (8 + r.val) % 8 = r.val % 8 := by omega
  have k2 : (16 + r.val) % 8 = r.val % 8 := by omega
  have k3 : t + (8 + r.val) / 8 = t + r.val / 8 + 1 := by omega
  have k4 : t + (16 + r.val) / 8 = t + r.val / 8 + 2 := by omega
  simp only [k1, k2, k3, k4, Par.CV]
  rfl

/-- The gated activation of a tile. -/
theorem act_is {t c : ℕ} {h u : FVec Ideal ⟨2, ![512, n]⟩ .f32} (hh : IsFlat (p.CV half) t c h) (hu : IsFlat (p.CV one) t (2816 + c) u) :
    IsFlat p.ACT t c (actV h u) := by
  intro r f
  pointwise
  rw [hh, hu]
  simp only [Par.ACT, Par.gate, Nat.add_assoc]

/-- The down projection of a stretch of features. -/
theorem down_is {t c : ℕ} {a : FVec Ideal ⟨2, ![512, n]⟩ .bf16} {w : FVec Ideal ⟨2, ![n, 1024]⟩ .bf16} (ha : IsFlat p.ACT t c a) (hw : IsMat p.wd c 0 w) :
    IsFlat (p.DN n c) t 0 (downV a w) := by
  intro r d
  refine (Wid.dn_at a w r d).trans ?_
  simp only [ha _ _, hw _ _, Par.DN, zero_add]

end Width

/-! ## A tile, from its operands -/

/-- The normed and modulated rows of a tile, from the projection and the four pieces of the input. -/
theorem rows_is {t : ℕ} {g sh gn : FVec Ideal S8x1x1024 .f32} {y : FVec Ideal S8x64x1024 .f32} {x0 x1 x2 x3 : FVec Ideal S8x16x1024 .f32}
    {h0 h1 h2 h3} (hg : IsRow (fun b d => p.md b (2048 + d)) g) (hs : IsRow (fun b d => p.md b (3072 + d)) sh) (hn : IsRow p.gain gn)
    (hy : ∀ (b : Fin 8) (τ : Fin 64) (d : Fin 1024), y (ix3 b τ d) = p.Y b (t + τ) d) (k0 : IsPiece p.x (t + 0) x0) (k1 : IsPiece p.x (t + 16) x1)
    (k2 : IsPiece p.x (t + 32) x2) (k3 : IsPiece p.x (t + 48) x3) :
    IsFlat p.HN t 0 (tileV (headV sh gn (residV 0 h0 g y x0)) (headV sh gn (residV 16 h1 g y x1)) (headV sh gn (residV 32 h2 g y x2))
      (headV sh gn (residV 48 h3 g y x3))) :=
  tile_is (head_is p hs hn (resid_is p hg hy k0 (by omega))) (head_is p hs hn (resid_is p hg hy k1 (by omega)))
    (head_is p hs hn (resid_is p hg hy k2 (by omega))) (head_is p hs hn (resid_is p hg hy k3 (by omega)))

section Width

variable {n : ℕ} [Wid n]

/-- What a step of two tiles leaves for the next one, on a stretch of features. -/
theorem kept_is {t c : ℕ} {a b : FVec Ideal S512x1024 .bf16} {k : FVec Ideal ⟨2, ![16, n]⟩ .f32} {w : FVec Ideal ⟨2, ![1024, n]⟩ .bf16}
    (ha : IsFlat p.HN t 0 a) (hb : IsFlat p.HN (t + 64) 0 b) (hk : IsFlat p.UH t c k) (hw : IsMat p.wu 0 c w) :
    IsFlat p.UH (t + 64 + 64) c (shapeCast ⟨2, ![16, n]⟩ (lastV (extV (lastV (extV k (upV a w))) (upV b w))) Wid.hst) := by
  intro r f
  have e := last_is p (ext_is p (last_is p (ext_is p hk (up_is p ha hw))) (up_is p hb hw)) r f
  rw [← e]
  pointwise

/-- The down projection of a stretch of features, from the normed rows and the rows kept for the gate and for the value. -/
theorem part_is {t c : ℕ} {a : FVec Ideal S512x1024 .bf16} {k l : FVec Ideal ⟨2, ![16, n]⟩ .f32} {w u : FVec Ideal ⟨2, ![1024, n]⟩ .bf16}
    {b w0 w1 w2 e u0 u1 u2 : FVec Ideal ⟨2, ![1, n]⟩ .f32} {d : FVec Ideal ⟨2, ![n, 1024]⟩ .bf16}
    (ha : IsFlat p.HN t 0 a) (hk : IsFlat p.UH t c k) (hl : IsFlat p.UH t (2816 + c) l) (hw : IsMat p.wu 0 c w) (hu : IsMat p.wu 0 (2816 + c) u)
    (hb : IsMat (fun _ f => p.cb f) 0 c b) (h0 : IsMat p.cw 0 c w0) (h1 : IsMat p.cw 1 c w1) (h2 : IsMat p.cw 2 c w2)
    (he : IsMat (fun _ f => p.cb f) 0 (2816 + c) e) (k0 : IsMat p.cw 0 (2816 + c) u0) (k1 : IsMat p.cw 1 (2816 + c) u1)
    (k2 : IsMat p.cw 2 (2816 + c) u2) (hd : IsMat p.wd c 0 d) :
    IsFlat (p.DN n c) t 0 (downV (actV (convV 0x3F000000#32 (extV k (upV a w)) b w0 w1 w2) (convV 0x3F800000#32 (extV l (upV a u)) e u0 u1 u2)) d) :=
  down_is p (act_is p (conv_is p (ext_is p hk (up_is p ha hw)) hb h0 h1 h2) (conv_is p (ext_is p hl (up_is p ha hu)) he k0 k1 k2)) hd

end Width

/-- The three parts of the down projection together. -/
theorem sum_is {t : ℕ} {u v w : FVec Ideal S512x1024 .f32} (hu : IsFlat (p.DN 256 0) t 0 u) (hv : IsFlat (p.DN 1280 256) t 0 v)
    (hw : IsFlat (p.DN 1280 1536) t 0 w) : IsFlat p.Z t 0 (addf (addf u v) w) := by
  intro r d
  pointwise
  rw [hu, hv, hw]
  simp only [Par.Z, zero_add]

end Cert.FfnProof

end
-- ==== Proof.Ffn.Reads.lean ====
/- The layer's operands read from the kernel's argument arrays, and what a grid point's input blocks hold: point `t` works
   on times `128 t` to `128 t + 127` of every batch; the weights are staged whole at every point. -/
module

public import proofs.«01_k».proof.Proof.Gen.FfnIdeal.Value
public import proofs.«01_k».proof.Proof.Ffn.Block
public import Idealize.ShloMosaic.Lib.Pipeline.ValueKit

@[expose] public section

set_option maxRecDepth 16384

noncomputable section

namespace Cert.FfnProof

open Idealize.ShloMosaic Idealize.ShloMosaic.TcCoe Idealize.SL.Sem
open Idealize.ShloMosaic.Pipeline (Dat)
open Cert.FfnIdeal Cert.FfnIdeal.Gen

/-- A vector's entries by natural number index, 0 outside. -/
def at1 {a : ℕ} (v : (⟨1, ![a]⟩ : Shape).Idx → EReal) (i : ℕ) : EReal := if h : i < a then v (ix1 ⟨i, h⟩) else 0
/-- A matrix's entries by natural number indices, 0 outside. -/
def at2 {a b : ℕ} (v : (⟨2, ![a, b]⟩ : Shape).Idx → EReal) (i j : ℕ) : EReal := if h : i < a ∧ j < b then v (ix2 ⟨i, h.1⟩ ⟨j, h.2⟩) else 0
/-- A rank-3 array's entries by natural number indices, 0 outside. -/
def at3 {a b d : ℕ} (v : (⟨3, ![a, b, d]⟩ : Shape).Idx → EReal) (i j k : ℕ) : EReal :=
  if h : i < a ∧ j < b ∧ k < d then v (ix3 ⟨i, h.1⟩ ⟨j, h.2.1⟩ ⟨k, h.2.2⟩) else 0

theorem at1_eq {a : ℕ} (v : (⟨1, ![a]⟩ : Shape).Idx → EReal) (x : (⟨1, ![a]⟩ : Shape).Idx) {i : ℕ} (hi : (x 0).val = i) : v x = at1 v i := by
  subst hi
  unfold at1; rw [dif_pos (show (x 0).val < a from (x 0).isLt)]; exact congrArg v (funext fun a => match a with | ⟨0, _⟩ => rfl)
theorem at2_eq {a b : ℕ} (v : (⟨2, ![a, b]⟩ : Shape).Idx → EReal) (x : (⟨2, ![a, b]⟩ : Shape).Idx) {i j : ℕ} (hi : (x 0).val = i) (hj : (x 1).val = j) :
    v x = at2 v i j := by
  subst hi hj
  unfold at2; rw [dif_pos ⟨(x 0).isLt, (x 1).isLt⟩]; exact congrArg v (funext fun a => match a with | ⟨0, _⟩ => rfl | ⟨1, _⟩ => rfl)
theorem at3_eq {a b d : ℕ} (v : (⟨3, ![a, b, d]⟩ : Shape).Idx → EReal) (x : (⟨3, ![a, b, d]⟩ : Shape).Idx) {i j k : ℕ} (hi : (x 0).val = i)
    (hj : (x 1).val = j) (hk : (x 2).val = k) : v x = at3 v i j k := by
  subst hi hj hk
  unfold at3; rw [dif_pos ⟨(x 0).isLt, (x 1).isLt, (x 2).isLt⟩]; exact congrArg v (funext fun a => match a with | ⟨0, _⟩ => rfl | ⟨1, _⟩ => rfl | ⟨2, _⟩ => rfl)

variable (m : (ℓ : Loc nD τ sig) → Buf (Elt Ideal) ℓ)

/-- The layer's operands, from the kernel's argument arrays. -/
def par (c : Dev nD) : Par where
  x := at3 (m ((c : Thread nD τ).loc main_arg0))
  yr := at3 (m ((c : Thread nD τ).loc main_arg1))
  ya := at3 (m ((c : Thread nD τ).loc main_arg2))
  md b k := at3 (m ((c : Thread nD τ).loc main_arg3)) b 0 k
  n2 := at1 (m ((c : Thread nD τ).loc main_arg4))
  fg := at1 (m ((c : Thread nD τ).loc main_arg5))
  wo := at2 (m ((c : Thread nD τ).loc main_arg6))
  wu := at2 (m ((c : Thread nD τ).loc main_arg7))
  cw := at2 (m ((c : Thread nD τ).loc main_arg8))
  cb := at1 (m ((c : Thread nD τ).loc main_arg9))
  wd := at2 (m ((c : Thread nD τ).loc main_arg10))

theorem idx0 : ∀ t : Fin cfg0.N, win0_0.index t = ![0, t.val, 0] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![0, t.val, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)

/-! ## The input blocks of a grid point -/

theorem blk0 (c : Dev nD) (t : Fin cfg0.N) (y : S8x128x1024.Idx) : iblk m c 0 t y = (par m c).x (y 0) (128 * t.val + y 1) (y 2) := by
  show V m c main_arg0 ((win0_0.blk t).view.emb y) = _
  rw [V_main_arg0]
  refine at3_eq (m ((c : Thread nD τ).loc main_arg0)) _ ?_ ?_ ?_ <;> (blk_simp [idx0 t] <;> try omega)

theorem blk1 (c : Dev nD) (t : Fin cfg0.N) (y : S8x128x512.Idx) : iblk m c 1 t y = (par m c).yr (y 0) (128 * t.val + y 1) (y 2) := by
  show V m c main_arg1 ((win0_1.blk t).view.emb y) = _
  rw [V_main_arg1]
  refine at3_eq (m ((c : Thread nD τ).loc main_arg1)) _ ?_ ?_ ?_ <;> (blk_simp [idx1 t] <;> try omega)

theorem blk2 (c : Dev nD) (t : Fin cfg0.N) (y : S8x128x512.Idx) : iblk m c 2 t y = (par m c).ya (y 0) (128 * t.val + y 1) (y 2) := by
  show V m c main_arg2 ((win0_2.blk t).view.emb y) = _
  rw [V_main_arg2]
  refine at3_eq (m ((c : Thread nD τ).loc main_arg2)) _ ?_ ?_ ?_ <;> (blk_simp [idx2 t] <;> try omega)

theorem blk3 (c : Dev nD) (t : Fin cfg0.N) (y : S8x1x6144.Idx) : iblk m c 3 t y = (par m c).md (y 0) (y 2) := by
  show V m c main_arg3 ((win0_3.blk t).view.emb y) = _
  rw [V_main_arg3]
  refine at3_eq (m ((c : Thread nD τ).loc main_arg3)) _ ?_ ?_ ?_ <;> (blk_simp [idx3 t] <;> try omega)

theorem blk4 (c : Dev nD) (t : Fin cfg0.N) (y : S1x1024.Idx) : iblk m c 4 t y = (par m c).n2 (y 1) := by
  show V m c main_v0 ((win0_4.blk t).view.emb y) = _
  entry_read
  pointwise
  refine at1_eq (m ((c : Thread nD τ).loc main_arg4)) _ ?_ <;> (blk_simp [idx4 t] <;> try omega)

theorem blk5 (c : Dev nD) (t : Fin cfg0.N) (y : S1x1024.Idx) : iblk m c 5 t y = (par m c).fg (y 1) := by
  show V m c main_v1 ((win0_5.blk t).view.emb y) = _
  entry_read
  pointwise
  refine at1_eq (m ((c : Thread nD τ).loc main_arg5)) _ ?_ <;> (blk_simp [idx5 t] <;> try omega)

theorem blk6 (c : Dev nD) (t : Fin cfg0.N) (y : S1024x1024.Idx) : iblk m c 6 t y = (par m c).wo (y 0) (y 1) := by
  show V m c main_arg6 ((win0_6.blk t).view.emb y) = _
  rw [V_main_arg6]
  refine at2_eq (m ((c : Thread nD τ).loc main_arg6)) _ ?_ ?_ <;> (blk_simp [idx6 t] <;> try omega)

theorem blk7 (c : Dev nD) (t : Fin cfg0.N) (y : S1024x5632.Idx) : iblk m c 7 t y = (par m c).wu (y 0) (y 1) := by
  show V m c main_arg7 ((win0_7.blk t).view.emb y) = _
  rw [V_main_arg7]
  refine at2_eq (m ((c : Thread nD τ).loc main_arg7)) _ ?_ ?_ <;> (blk_simp [idx7 t] <;> try omega)

theorem blk8 (c : Dev nD) (t : Fin cfg0.N) (y : S3x5632.Idx) : iblk m c 8 t y = (par m c).cw (y 0) (y 1) := by
  show V m c main_arg8 ((win0_8.blk t).view.emb y) = _
  rw [V_main_arg8]
  refine at2_eq (m ((c : Thread nD τ).loc main_arg8)) _ ?_ ?_ <;> (blk_simp [idx8 t] <;> try omega)

theorem blk9 (c : Dev nD) (t : Fin cfg0.N) (y : S1x5632.Idx) : iblk m c 9 t y = (par m c).cb (y 1) := by
  show V m c main_v2 ((win0_9.blk t).view.emb y) = _
  entry_read
  pointwise
  refine at1_eq (m ((c : Thread nD τ).loc main_arg9)) _ ?_ <;> (blk_simp [idx9 t] <;> try omega)

theorem blk10 (c : Dev nD) (t : Fin cfg0.N) (y : S2816x1024.Idx) : iblk m c 10 t y = (par m c).wd (y 0) (y 1) := by
  show V m c main_arg10 ((win0_10.blk t).view.emb y) = _
  rw [V_main_arg10]
  refine at2_eq (m ((c : Thread nD τ).loc main_arg10)) _ ?_ ?_ <;> (blk_simp [idx10 t] <;> try omega)

/-! ## The loads of a grid point, at any offsets -/

theorem eq2 (F : ℕ → ℕ → EReal) {a a' b b' : ℕ} (ha : a = a') (hb : b = b') : F a b = F a' b' := by subst ha hb; rfl

theorem ldX (c : Dev nD) (t : Fin cfg0.N) {o T : ℕ} {h} (hT : T = 128 * t.val + o) :
    IsPiece (par m c).x T (View.ld (iblk m c 0 t) (Rect.unit ![0, o, 0] ![8, 16, 1024] h)) := by
  intro b τ d
  refine (blk0 m c t _).trans (eq3 _ ?_ ?_ ?_) <;> simp only [Rect.idx_unit_val] <;> simp [ix3] <;> omega

theorem ldR (c : Dev nD) (t : Fin cfg0.N) {o T : ℕ} {h} (hT : T = 128 * t.val + o) (b : Fin 8) (τ : Fin 64) (e : Fin 512) :
    View.ld (iblk m c 1 t) (Rect.unit ![0, o, 0] ![8, 64, 512] h) (ix3 b τ e) = (par m c).yr b (T + τ) e := by
  refine (blk1 m c t _).trans (eq3 _ ?_ ?_ ?_) <;> simp only [Rect.idx_unit_val] <;> simp [ix3] <;> omega

theorem ldA (c : Dev nD) (t : Fin cfg0.N) {o T : ℕ} {h} (hT : T = 128 * t.val + o) (b : Fin 8) (τ : Fin 64) (e : Fin 512) :
    View.ld (iblk m c 2 t) (Rect.unit ![0, o, 0] ![8, 64, 512] h) (ix3 b τ e) = (par m c).ya b (T + τ) e := by
  refine (blk2 m c t _).trans (eq3 _ ?_ ?_ ?_) <;> simp only [Rect.idx_unit_val] <;> simp [ix3] <;> omega

theorem ldM (c : Dev nD) (t : Fin cfg0.N) {o : ℕ} {h} :
    IsRow (fun b d => (par m c).md b (o + d)) (View.ld (iblk m c 3 t) (Rect.unit ![0, 0, o] ![8, 1, 1024] h)) := by
  intro b d
  refine (blk3 m c t _).trans (eq2 _ ?_ ?_) <;> simp only [Rect.idx_unit_val] <;> simp [ix3]

theorem ldN (c : Dev nD) (t : Fin cfg0.N) : IsMat (φ := .f32) (fun _ d => (par m c).n2 d) 0 0 (iblk m c 4 t) := by
  intro r d
  refine (blk4 m c t _).trans ?_
  simp [ix2]

theorem ldF (c : Dev nD) (t : Fin cfg0.N) : IsMat (φ := .f32) (fun _ d => (par m c).fg d) 0 0 (iblk m c 5 t) := by
  intro r d
  refine (blk5 m c t _).trans ?_
  simp [ix2]

theorem ldO (c : Dev nD) (t : Fin cfg0.N) {k : ℕ} {h} :
    IsMat (m := 512) (n := 1024) (φ := .bf16) (par m c).wo k 0 (View.ld (iblk m c 6 t) (Rect.unit ![k, 0] ![512, 1024] h)) := by
  intro r d
  refine (blk6 m c t _).trans (eq2 _ ?_ ?_) <;> simp only [Rect.idx_unit_val] <;> simp [ix2]

theorem ldU (c : Dev nD) (t : Fin cfg0.N) {n k : ℕ} {h} :
    IsMat (m := 1024) (n := n) (φ := .bf16) (par m c).wu 0 k (View.ld (iblk m c 7 t) (Rect.unit ![0, k] ![1024, n] h)) := by
  intro r d
  refine (blk7 m c t _).trans (eq2 _ ?_ ?_) <;> simp only [Rect.idx_unit_val] <;> simp [ix2]

theorem ldC (c : Dev nD) (t : Fin cfg0.N) {n j k : ℕ} {h} :
    IsMat (m := 1) (n := n) (φ := .f32) (par m c).cw j k (View.ld (iblk m c 8 t) (Rect.unit ![j, k] ![1, n] h)) := by
  intro r d
  refine (blk8 m c t _).trans (eq2 _ ?_ ?_) <;> simp only [Rect.idx_unit_val] <;> simp [ix2]

theorem ldB (c : Dev nD) (t : Fin cfg0.N) {n k : ℕ} {h} :
    IsMat (m := 1) (n := n) (φ := .f32) (fun _ f => (par m c).cb f) 0 k (View.ld (iblk m c 9 t) (Rect.unit ![0, k] ![1, n] h)) := by
  intro r d
  refine (blk9 m c t _).trans (congrArg _ ?_) <;> simp only [Rect.idx_unit_val] <;> simp [ix2]

theorem ldD (c : Dev nD) (t : Fin cfg0.N) {n k : ℕ} {h} :
    IsMat (m := n) (n := 1024) (φ := .bf16) (par m c).wd k 0 (View.ld (iblk m c 10 t) (Rect.unit ![k, 0] ![n, 1024] h)) := by
  intro r d
  refine (blk10 m c t _).trans (eq2 _ ?_ ?_) <;> simp only [Rect.idx_unit_val] <;> simp [ix2]

/-- The rows kept from the point before, on a stretch of features. -/
theorem ldK {F : ℕ → ℕ → ℕ → EReal} {T : ℕ} {s : FVec Ideal S16x5632 .f32} (hs : IsFlat F T 0 s) {n k : ℕ} {h} :
    IsFlat (m := 16) (n := n) (φ := .f32) F T k (View.ld (Val := Elt Ideal) (e' := .f32) s (Rect.unit ![0, k] ![16, n] h)) := by
  intro r f
  have hk : k + n ≤ 5632 := h 1
  have e : (Rect.unit ![0, k] ![16, n] h).idx (ix2 r f) = ix2 r ⟨k + f, by omega⟩ := by
    refine norm_ix _ _ _ ?_ ?_ <;> simp only [Rect.idx_unit_val] <;> simp [ix2]
  refine (congrArg s e).trans ((hs _ _).trans (eq3 _ rfl rfl (Nat.zero_add _)))

end Cert.FfnProof

end
-- ==== Proof.Ffn.Step.lean ====
/- One grid point: given the two rows of the up projection kept from the point before, what the point leaves for the next
   one, and the block of the result it writes. -/
module

public import proofs.«01_k».proof.Proof.Ffn.Reads
public import Idealize.ShloMosaic.Lib.Pipeline.ReadBack

@[expose] public section

set_option maxRecDepth 16384

noncomputable section

namespace Cert.FfnProof

open Idealize.ShloMosaic Idealize.ShloMosaic.TcCoe Idealize.SL.Sem
open Idealize.ShloMosaic.Pipeline (Dat)
open Cert.FfnIdeal Cert.FfnIdeal.Gen

variable (m : (ℓ : Loc nD τ sig) → Buf (Elt Ideal) ℓ)

/-- The normed and modulated rows of the tile that starts `q` times into the point's stretch. -/
theorem rows_at (c : Dev nD) (t : Fin cfg0.N) (q : ℕ) {T : ℕ} (hT : T = 128 * t.val + q) {e1 e2 e3 e4 e5 e6 e7 r0 r1 r2 r3 h0 h1 h2 h3} :
    let sh : FVec Ideal S8x1x1024 .f32 := View.ld (iblk m c 3 t) (Rect.unit ![0, 0, 3072] ![8, 1, 1024] e1)
    let g : FVec Ideal S8x1x1024 .f32 := View.ld (iblk m c 3 t) (Rect.unit ![0, 0, 2048] ![8, 1, 1024] e2)
    let gn : FVec Ideal S8x1x1024 .f32 := k0_pay4 (F := Ideal) (iblk m c 4 t) (View.ld (iblk m c 3 t) (Rect.unit ![0, 0, 4096] ![8, 1, 1024] e3))
    let y : FVec Ideal S8x64x1024 .f32 := projV (View.ld (iblk m c 1 t) (Rect.unit ![0, q, 0] ![8, 64, 512] e4))
      (View.ld (iblk m c 2 t) (Rect.unit ![0, q, 0] ![8, 64, 512] e5))
      (View.ld (iblk m c 6 t) (Rect.unit ![0, 0] ![512, 1024] e6)) (View.ld (iblk m c 6 t) (Rect.unit ![512, 0] ![512, 1024] e7))
    IsFlat (par m c).HN T 0 (tileV
      (headV sh gn (residV 0 h0 g y (View.ld (iblk m c 0 t) (Rect.unit ![0, q, 0] ![8, 16, 1024] r0))))
      (headV sh gn (residV 16 h1 g y (View.ld (iblk m c 0 t) (Rect.unit ![0, q + 16, 0] ![8, 16, 1024] r1))))
      (headV sh gn (residV 32 h2 g y (View.ld (iblk m c 0 t) (Rect.unit ![0, q + 32, 0] ![8, 16, 1024] r2))))
      (headV sh gn (residV 48 h3 g y (View.ld (iblk m c 0 t) (Rect.unit ![0, q + 48, 0] ![8, 16, 1024] r3))))) := by
  subst hT
  exact rows_is (par m c) (ldM m c t) (ldM m c t) (gain_is (par m c) (ldN m c t) (ldM m c t))
    (proj_is (par m c) (ldR m c t rfl) (ldA m c t rfl) (ldO m c t) (ldO m c t)) (ldX m c t rfl) (ldX m c t rfl) (ldX m c t rfl) (ldX m c t rfl)

/-- What a point leaves in the kept rows, on a stretch of features. -/
theorem kept_at {c : Dev nD} {t : Fin cfg0.N} {s : FVec Ideal S16x5632 .f32} (hs : IsFlat (par m c).UH (128 * t.val) 0 s) {n k : ℕ} [Wid n]
    {a b : FVec Ideal S512x1024 .bf16} {h h'} (ha : IsFlat (par m c).HN (128 * t.val) 0 a) (hb : IsFlat (par m c).HN (128 * t.val + 64) 0 b)
    {y : S16x5632.Idx} {r : Fin 16} {f : Fin n} (h0 : (y 0).val = r) (h1 : (y 1).val = k + f) :
    shapeCast ⟨2, ![16, n]⟩ (lastV (extV (lastV (extV (View.ld (Val := Elt Ideal) (e' := .f32) s (Rect.unit ![0, k] ![16, n] h))
      (upV a (View.ld (iblk m c 7 t) (Rect.unit ![0, k] ![1024, n] h'))))) (upV b (View.ld (iblk m c 7 t) (Rect.unit ![0, k] ![1024, n] h')))))
      Wid.hst (ix2 r f) = (par m c).UH (y 0 % 8) (128 * (t.val + 1) + y 0 / 8) (y 1) :=
  (kept_is (par m c) ha hb (ldK hs) (ldU m c t) r f).trans (eq3 _ (by rw [h0]) (by rw [h0]; omega) h1.symm)

/-- The first of several writes no longer shows at an index which the later ones write. -/
theorem canon_drop {Val : EltTy → Type} [∀ e, Nonempty (Val e)] {S : Shape} {e : EltTy} (q : View.Piece Val S e) (y : S.Idx) :
    ∀ L : List (View.Piece Val S e), (∃ p ∈ L, y ∈ p.1.set) → View.canon (L ++ [q]) y = View.canon L y
  | [], hc => by obtain ⟨p, hp, _⟩ := hc; exact absurd hp List.not_mem_nil
  | p :: L, hc => by
    by_cases hm : y ∈ p.1.set
    · obtain ⟨x, rfl⟩ := p.1.exists_idx_of_mem hm
      exact (View.canon_cons_emb p.1 p.2 (L ++ [q]) x).trans (View.canon_cons_emb p.1 p.2 L x).symm
    · refine (View.canon_cons_of_not_mem p (L ++ [q]) hm).trans ((canon_drop q y L ?_).trans (View.canon_cons_of_not_mem p L hm).symm)
      obtain ⟨r, hr, hy⟩ := hc
      rcases List.mem_cons.mp hr with rfl | hr
      · exact absurd hy hm
      · exact ⟨r, hr, hy⟩

/-- The zeros the first point starts from are the rows before time 0. -/
theorem fill_is (c : Dev nD) (t : Fin cfg0.N) (h : t.val % 16 = 0) : IsFlat (par m c).UH (128 * t.val) 0 (k0_pay3 (F := Ideal)) := by
  intro r f
  have ht : t.val < 16 := lt_of_lt_of_eq t.isLt N_0
  pointwise [k0_pay3]
  rw [Par.UH, if_pos (by omega)]

/-- What a point leaves in the kept rows: the up projection's last two times, from those the point before left. -/
theorem kept (c : Dev nD) (t : Fin cfg0.N)
    (hp : ∀ _ : ¬t.val % 16 = 0, IsFlat (m := 16) (n := 5632) (φ := .f32) (par m c).UH (128 * t.val) 0 (outsAt0 m c (t.val - 1) (by omega)).2) (y : S16x5632.Idx) :
    (outsAt0 m c t.val t.isLt).2 y = (par m c).UH (y 0 % 8) (128 * (t.val + 1) + y 0 / 8) (y 1) := by
  by_cases h : t.val % 16 = 0
  · have hs := fill_is m c t h
    rw [outsAt0_A m c t h]
    frame_open
    simp (disch := decide) only [↓ View.readCov_skip, ↓ View.readCov_cons_toLoadRect, ↓ View.readCov_fill]
    frame_out
    refine (canon_drop _ y [_, _, _, _, _, _] (View.cover_of_tiledBy _ ![16, 256] (by sl_kernel_rfl) y)).trans ?_
    canon_tiles x h using View.cover_of_tiledBy _ ![16, 256] (by sl_kernel_rfl) y
    all_goals
      idx_vars x
      refine kept_at (r := x0) (f := x1) m hs ?_ ?_ h0 ?_
      · exact rows_at m c t 0 rfl
      · exact rows_at m c t 64 rfl
      · omega
  · have hs := hp h
    rw [outsAt0_B m c t h]
    frame_open
    frame_out
    simp only [read_unread_whole]
    canon_tiles x h using View.cover_of_tiledBy _ ![16, 256] (by sl_kernel_rfl) y
    all_goals
      idx_vars x
      refine kept_at (r := x0) (f := x1) m hs ?_ ?_ h0 ?_
      · exact rows_at m c t 0 rfl
      · exact rows_at m c t 64 rfl
      · omega

end Cert.FfnProof

end
-- ==== Proof.Ffn.Out.lean ====
/- One grid point's block of the result: given the two rows of the up projection kept from the point before, the point
   writes the layer's result on its 128 times. -/
module

public import proofs.«01_k».proof.Proof.Ffn.Step

@[expose] public section

set_option maxRecDepth 16384

noncomputable section

namespace Cert.FfnProof

open Idealize.ShloMosaic Idealize.ShloMosaic.TcCoe Idealize.SL.Sem
open Idealize.ShloMosaic.Pipeline (Dat)
open Cert.FfnIdeal Cert.FfnIdeal.Gen

variable (m : (ℓ : Loc nD τ sig) → Buf (Elt Ideal) ℓ)

theorem inb2 {a b k n A B : ℕ} (h : a + k ≤ A) (h' : b + n ≤ B) :
    ∀ i : Fin 2, (![a, b] : Fin 2 → ℕ) i + (![k, n] : Fin 2 → ℕ) i ≤ (⟨2, ![A, B]⟩ : Shape).size i :=
  fun i => match i with | ⟨0, _⟩ => h | ⟨1, _⟩ => h'

/-- The part of a matrix of `k` rows and `n` columns from row `a` and column `b` on. -/
abbrev cutL {A B : ℕ} {φ : EltTy} (X : (⟨2, ![A, B]⟩ : Shape).Idx → Elt Ideal φ) (a b k n : ℕ) (h : a + k ≤ A) (h' : b + n ≤ B) :
    (⟨2, ![k, n]⟩ : Shape).Idx → Elt Ideal φ :=
  View.ld (Val := Elt Ideal) (e' := φ) X (Rect.unit (s := ⟨2, ![A, B]⟩) ![a, b] ![k, n] (inb2 h h'))

/-- The down projection of `n` features from `k` on, its weights read from the point's blocks. -/
abbrev partL (c : Dev nD) (t : Fin cfg0.N) (n k : ℕ) [Wid n] (hk : k + n ≤ 2816) (a : FVec Ideal S512x1024 .bf16) (v l : FVec Ideal ⟨2, ![16, n]⟩ .f32) :
    FVec Ideal S512x1024 .f32 :=
  downV (actV
      (convV 0x3F000000#32 (extV v (upV a (cutL (φ := .bf16) (iblk m c 7 t) 0 k 1024 n (by omega) (by omega))))
        (cutL (φ := .f32) (iblk m c 9 t) 0 k 1 n (by omega) (by omega)) (cutL (φ := .f32) (iblk m c 8 t) 0 k 1 n (by omega) (by omega))
        (cutL (φ := .f32) (iblk m c 8 t) 1 k 1 n (by omega) (by omega)) (cutL (φ := .f32) (iblk m c 8 t) 2 k 1 n (by omega) (by omega)))
      (convV 0x3F800000#32 (extV l (upV a (cutL (φ := .bf16) (iblk m c 7 t) 0 (2816 + k) 1024 n (by omega) (by omega))))
        (cutL (φ := .f32) (iblk m c 9 t) 0 (2816 + k) 1 n (by omega) (by omega)) (cutL (φ := .f32) (iblk m c 8 t) 0 (2816 + k) 1 n (by omega) (by omega))
        (cutL (φ := .f32) (iblk m c 8 t) 1 (2816 + k) 1 n (by omega) (by omega)) (cutL (φ := .f32) (iblk m c 8 t) 2 (2816 + k) 1 n (by omega) (by omega))))
      (cutL (φ := .bf16) (iblk m c 10 t) k 0 n 1024 (by omega) (by omega))

theorem part_at (c : Dev nD) (t : Fin cfg0.N) {n k : ℕ} [Wid n] (hk : k + n ≤ 2816) {T : ℕ} {a : FVec Ideal S512x1024 .bf16} {v l : FVec Ideal ⟨2, ![16, n]⟩ .f32}
    (ha : IsFlat (par m c).HN T 0 a) (hv : IsFlat (par m c).UH T k v) (hl : IsFlat (par m c).UH T (2816 + k) l) :
    IsFlat ((par m c).DN n k) T 0 (partL m c t n k hk a v l) :=
  part_is (par m c) ha hv hl (ldU m c t) (ldU m c t) (ldB m c t) (ldC m c t) (ldC m c t) (ldC m c t) (ldB m c t) (ldC m c t) (ldC m c t)
    (ldC m c t) (ldD m c t)

/-- The down projection of a tile, from its normed rows and the rows kept for the six stretches of features. -/
abbrev downL (c : Dev nD) (t : Fin cfg0.N) (a : FVec Ideal S512x1024 .bf16) (v0 l0 : FVec Ideal S16x256 .f32) (v1 l1 v2 l2 : FVec Ideal S16x1280 .f32) :
    FVec Ideal S512x1024 .f32 :=
  addf (addf (partL m c t 256 0 (by decide) a v0 l0) (partL m c t 1280 256 (by decide) a v1 l1)) (partL m c t 1280 1536 (by decide) a v2 l2)

/-- The rows kept by a point's first tile for its second one. -/
abbrev midL (c : Dev nD) (t : Fin cfg0.N) (n k : ℕ) [Wid n] (hk : k + n ≤ 5632) (a : FVec Ideal S512x1024 .bf16) (s : FVec Ideal S16x5632 .f32) :
    FVec Ideal ⟨2, ![16, n]⟩ .f32 :=
  lastV (extV (cutL (φ := .f32) s 0 k 16 n (by omega) hk) (upV a (cutL (φ := .bf16) (iblk m c 7 t) 0 k 1024 n (by omega) hk)))

theorem mid_at (c : Dev nD) (t : Fin cfg0.N) {n k T : ℕ} [Wid n] (hk : k + n ≤ 5632) {a : FVec Ideal S512x1024 .bf16} {s : FVec Ideal S16x5632 .f32}
    (ha : IsFlat (par m c).HN T 0 a) (hs : IsFlat (par m c).UH T 0 s) : IsFlat (par m c).UH (T + 64) k (midL m c t n k hk a s) :=
  last_is (par m c) (ext_is (par m c) (ldK hs) (up_is (par m c) ha (ldU m c t)))

/-- The first tile's down projection. -/
theorem lo_at (c : Dev nD) (t : Fin cfg0.N) {T : ℕ} {a : FVec Ideal S512x1024 .bf16} {s : FVec Ideal S16x5632 .f32} (hs : IsFlat (par m c).UH T 0 s)
    (ha : IsFlat (par m c).HN T 0 a) :
    IsFlat (par m c).Z T 0 (downL m c t a (cutL (φ := .f32) s 0 0 16 256 (by decide) (by decide)) (cutL (φ := .f32) s 0 2816 16 256 (by decide) (by decide))
      (cutL (φ := .f32) s 0 256 16 1280 (by decide) (by decide)) (cutL (φ := .f32) s 0 3072 16 1280 (by decide) (by decide))
      (cutL (φ := .f32) s 0 1536 16 1280 (by decide) (by decide)) (cutL (φ := .f32) s 0 4352 16 1280 (by decide) (by decide))) :=
  sum_is (par m c) (part_at m c t _ ha (ldK hs) (ldK hs)) (part_at m c t _ ha (ldK hs) (ldK hs)) (part_at m c t _ ha (ldK hs) (ldK hs))

/-- The second tile's down projection. -/
theorem hi_at (c : Dev nD) (t : Fin cfg0.N) {T : ℕ} {a b : FVec Ideal S512x1024 .bf16} {s : FVec Ideal S16x5632 .f32} (hs : IsFlat (par m c).UH T 0 s)
    (ha : IsFlat (par m c).HN T 0 a) (hb : IsFlat (par m c).HN (T + 64) 0 b) :
    IsFlat (par m c).Z (T + 64) 0 (downL m c t b (midL m c t 256 0 (by decide) a s) (midL m c t 256 2816 (by decide) a s)
      (midL m c t 1280 256 (by decide) a s) (midL m c t 1280 3072 (by decide) a s) (midL m c t 1280 1536 (by decide) a s)
      (midL m c t 1280 4352 (by decide) a s)) :=
  sum_is (par m c) (part_at m c t _ hb (mid_at m c t _ ha hs) (mid_at m c t _ ha hs)) (part_at m c t _ hb (mid_at m c t _ ha hs) (mid_at m c t _ ha hs))
    (part_at m c t _ hb (mid_at m c t _ ha hs) (mid_at m c t _ ha hs))

/-- A piece of the result, `o` times into the tile that starts `q` times into the point's stretch. -/
theorem piece_at (c : Dev nD) (t : Fin cfg0.N) (q o : ℕ) (ho : o + 16 ≤ 64) {z : FVec Ideal S512x1024 .f32} (hz : IsFlat (par m c).Z (128 * t.val + q) 0 z)
    {e1 e2 e4 e5 e6 e7 e8 e9 e10} {y : S8x128x1024.Idx} {b : Fin 8} {τ : Fin 16} {d : Fin 1024} (h0 : (y 0).val = b) (h1 : (y 1).val = q + o + τ)
    (h2 : (y 2).val = d) :
    tailV (8 * o) e1 (View.ld (iblk m c 3 t) (Rect.unit ![0, 0, 5120] ![8, 1, 1024] e10))
      (residV o e2 (View.ld (iblk m c 3 t) (Rect.unit ![0, 0, 2048] ![8, 1, 1024] e9))
        (projV (View.ld (iblk m c 1 t) (Rect.unit ![0, q, 0] ![8, 64, 512] e4)) (View.ld (iblk m c 2 t) (Rect.unit ![0, q, 0] ![8, 64, 512] e5))
          (View.ld (iblk m c 6 t) (Rect.unit ![0, 0] ![512, 1024] e6)) (View.ld (iblk m c 6 t) (Rect.unit ![512, 0] ![512, 1024] e7)))
        (View.ld (iblk m c 0 t) (Rect.unit ![0, q + o, 0] ![8, 16, 1024] e8))) z (iblk m c 5 t) (ix3 b τ d)
      = (par m c).OUT (y 0) (128 * t.val + y 1) (y 2) := by
  refine Eq.trans (b := (par m c).OUT b (128 * t.val + q + o + τ) d) ?_ (eq3 _ h0.symm (by omega) h2.symm)
  exact tail_is (par m c) (ldM m c t) (resid_is (par m c) (ldM m c t)
    (proj_is (par m c) (ldR m c t rfl) (ldA m c t rfl) (ldO m c t) (ldO m c t)) (ldX m c t (Nat.add_assoc _ _ _)) ho) hz (ldF m c t) rfl ho b τ d

/-- The first point's block of the result. -/
theorem block_A (c : Dev nD) (t : Fin cfg0.N) (h : t.val % 16 = 0) (y : S8x128x1024.Idx) :
    (outsAt0 m c t.val t.isLt).1 y = (par m c).OUT (y 0) (128 * t.val + y 1) (y 2) := by
  have hs := fill_is m c t h
  rw [outsAt0_A m c t h]
  frame_open
  simp (disch := decide) only [↓ View.readCov_skip, ↓ View.readCov_cons_toLoadRect, ↓ View.readCov_fill]
  frame_out
  canon_tiles x h
  all_goals idx_vars x
  case' piece7 => refine piece_at m c t 0 0 (by decide) (b := x0) (τ := x1) (d := x2) ?_ h0 (by omega) h2
  case' piece6 => refine piece_at m c t 0 16 (by decide) (b := x0) (τ := x1) (d := x2) ?_ h0 (by omega) h2
  case' piece5 => refine piece_at m c t 0 32 (by decide) (b := x0) (τ := x1) (d := x2) ?_ h0 (by omega) h2
  case' piece4 => refine piece_at m c t 0 48 (by decide) (b := x0) (τ := x1) (d := x2) ?_ h0 (by omega) h2
  case' piece3 => refine piece_at m c t 64 0 (by decide) (b := x0) (τ := x1) (d := x2) ?_ h0 (by omega) h2
  case' piece2 => refine piece_at m c t 64 16 (by decide) (b := x0) (τ := x1) (d := x2) ?_ h0 (by omega) h2
  case' piece1 => refine piece_at m c t 64 32 (by decide) (b := x0) (τ := x1) (d := x2) ?_ h0 (by omega) h2
  case' piece0 => refine piece_at m c t 64 48 (by decide) (b := x0) (τ := x1) (d := x2) ?_ h0 (by omega) h2
  case piece7 | piece6 | piece5 | piece4 =>
    refine lo_at m c t hs ?_
    exact rows_at m c t 0 rfl
  all_goals
    refine hi_at m c t hs ?_ ?_
    · exact rows_at m c t 0 rfl
    · exact rows_at m c t 64 rfl

/-- A later point's block of the result, from the rows the point before left. -/
theorem block_B (c : Dev nD) (t : Fin cfg0.N) (h : ¬t.val % 16 = 0)
    (hs : IsFlat (m := 16) (n := 5632) (φ := .f32) (par m c).UH (128 * t.val) 0 (outsAt0 m c (t.val - 1) (by omega)).2) (y : S8x128x1024.Idx) :
    (outsAt0 m c t.val t.isLt).1 y = (par m c).OUT (y 0) (128 * t.val + y 1) (y 2) := by
  rw [outsAt0_B m c t h]
  frame_open
  frame_out
  simp only [read_unread_whole]
  canon_tiles x h
  all_goals idx_vars x
  case' piece7 => refine piece_at m c t 0 0 (by decide) (b := x0) (τ := x1) (d := x2) ?_ h0 (by omega) h2
  case' piece6 => refine piece_at m c t 0 16 (by decide) (b := x0) (τ := x1) (d := x2) ?_ h0 (by omega) h2
  case' piece5 => refine piece_at m c t 0 32 (by decide) (b := x0) (τ := x1) (d := x2) ?_ h0 (by omega) h2
  case' piece4 => refine piece_at m c t 0 48 (by decide) (b := x0) (τ := x1) (d := x2) ?_ h0 (by omega) h2
  case' piece3 => refine piece_at m c t 64 0 (by decide) (b := x0) (τ := x1) (d := x2) ?_ h0 (by omega) h2
  case' piece2 => refine piece_at m c t 64 16 (by decide) (b := x0) (τ := x1) (d := x2) ?_ h0 (by omega) h2
  case' piece1 => refine piece_at m c t 64 32 (by decide) (b := x0) (τ := x1) (d := x2) ?_ h0 (by omega) h2
  case' piece0 => refine piece_at m c t 64 48 (by decide) (b := x0) (τ := x1) (d := x2) ?_ h0 (by omega) h2
  case piece7 | piece6 | piece5 | piece4 =>
    refine lo_at m c t hs ?_
    exact rows_at m c t 0 rfl
  all_goals
    refine hi_at m c t hs ?_ ?_
    · exact rows_at m c t 0 rfl
    · exact rows_at m c t 64 rfl

end Cert.FfnProof

end
-- ==== Proof.Ffn.Array.lean ====
/- The kernel's result array: the layer's result at every batch, time and feature. -/
module

public import proofs.«01_k».proof.Proof.Ffn.Out

@[expose] public section

set_option maxRecDepth 16384

noncomputable section

namespace Cert.FfnProof

open Idealize.ShloMosaic Idealize.ShloMosaic.TcCoe Idealize.SL.Sem
open Idealize.ShloMosaic.Pipeline (Dat)
open Cert.FfnIdeal Cert.FfnIdeal.Gen

variable (m : (ℓ : Loc nD τ sig) → Buf (Elt Ideal) ℓ)

/-- What point `n` leaves in the kept rows. -/
theorem kept_all (c : Dev nD) : ∀ (n : ℕ) (hn : n < cfg0.N),
    IsFlat (m := 16) (n := 5632) (φ := .f32) (par m c).UH (128 * (n + 1)) 0 (outsAt0 m c n hn).2
  | 0, hn => fun r f => (kept m c ⟨0, hn⟩ (fun h => absurd (Nat.zero_mod _) h) (ix2 r f)).trans (eq3 _ rfl rfl (Nat.zero_add _).symm)
  | n + 1, hn => fun r f => (kept m c ⟨n + 1, hn⟩ (fun _ => kept_all c n (Nat.lt_of_succ_lt hn)) (ix2 r f)).trans (eq3 _ rfl rfl (Nat.zero_add _).symm)

/-- Point `t` writes the layer's result on its stretch. -/
theorem block_all (c : Dev nD) (t : Fin cfg0.N) (y : S8x128x1024.Idx) :
    (outsAt0 m c t.val t.isLt).1 y = (par m c).OUT (y 0) (128 * t.val + y 1) (y 2) := by
  by_cases h : t.val % 16 = 0
  · exact block_A m c t h y
  refine block_B m c t h ?_ y
  have e : t.val - 1 + 1 = t.val := by omega
  have k := kept_all m c (t.val - 1) (by omega)
  rwa [e] at k

theorem idx11 : ∀ t : Fin cfg0.N, win0_11.index t = ![0, t.val, 0] := (by decide +kernel : ∀ t : Fin grid0.N, _)

/-- The kernel's result array. -/
theorem array_eq (c : Dev nD) : (dats m 0 c).arrAt 11 cfg0.N = fun i => (par m c).OUT (i 0) (i 1) (i 2) := by
  refine (dats m 0 c).arrAt_eq_of_covers 11 _ (by decide +kernel) fun t hf y => ?_
  blk_simp
  rw [after0_11]
  refine (block_all m c t y).trans (eq3 _ ?_ ?_ ?_) <;> (blk_simp [idx11 t] <;> try omega)

end Cert.FfnProof

end
-- ==== Proof.Ffn.Algebra.lean ====
/- The layer's equations over the extended reals: the norm's gain applied in two steps, the convolution's scale taken out,
   the gate from half its input by tanh as the input times its logistic, the down projection in one sum. -/
module

public import proofs.«01_k».proof.Proof.Ffn.Spec
public import Idealize.ShloMosaic.Lib.Pointwise

@[expose] public section

noncomputable section

namespace Cert.FfnProof

open Idealize.ShloMosaic

/-! ## Real numbers among the extended reals -/

/-- The extended real is a real number. -/
def IsReal (x : EReal) : Prop := ∃ r : ℝ, x = r

theorem IsReal.add {x y : EReal} : IsReal x → IsReal y → IsReal (x + y)
  | ⟨a, ha⟩, ⟨b, hb⟩ => ⟨a + b, by rw [ha, hb, EReal.coe_add]⟩
theorem IsReal.mul {x y : EReal} : IsReal x → IsReal y → IsReal (x * y)
  | ⟨a, ha⟩, ⟨b, hb⟩ => ⟨a * b, by rw [ha, hb, EReal.coe_mul]⟩
theorem IsReal.zero : IsReal 0 := ⟨0, rfl⟩
theorem IsReal.one : IsReal 1 := ⟨1, rfl⟩
theorem IsReal.sum {n : ℕ} {g : Fin n → EReal} (h : ∀ k, IsReal (g k)) : IsReal (∑ k, g k) :=
  Finset.sum_induction g IsReal (fun _ _ => IsReal.add) IsReal.zero (fun k _ => h k)
theorem IsReal.ite {q : Prop} [Decidable q] {x y : EReal} (hx : IsReal x) (hy : IsReal y) : IsReal (if q then x else y) := by
  split <;> assumption

/-- An extended real that isn't a real number squares to `⊤`. -/
theorem sq_of_not_real {x : EReal} (h : ¬IsReal x) : x * x = ⊤ := by
  induction x with
  | bot => exact EReal.bot_mul_bot
  | top => exact EReal.top_mul_top
  | coe r => exact absurd ⟨r, rfl⟩ h

theorem sq_nonneg' (x : EReal) : 0 ≤ x * x := by
  by_cases h : IsReal x
  · obtain ⟨r, rfl⟩ := h
    rw [← EReal.coe_mul]; exact EReal.coe_nonneg.mpr (mul_self_nonneg r)
  · rw [sq_of_not_real h]; exact le_top

/-! ## The constants -/

theorem one_eq : one = 1 := by
  simp [one, Ideal.ofBits, Ideal.ieee]; rw [← EReal.coe_mul]; norm_num
theorem half_eq : half = ((1 / 2 : ℝ) : EReal) := by
  rw [half]; simp [Ideal.ofBits, Ideal.ieee]; rw [← EReal.coe_mul]; norm_num
theorem c1024_eq : c1024 = ((1024 : ℝ) : EReal) := by
  rw [c1024]; simp [Ideal.ofBits, Ideal.ieee]; rw [← EReal.coe_mul]; norm_num
theorem eps_pos : ∃ e : ℝ, 0 < e ∧ eps = e := by
  rw [eps]; simp [Ideal.ofBits, Ideal.ieee]; exact ⟨8796093 * (2 ^ 43)⁻¹, by norm_num, by rw [EReal.coe_mul]⟩

/-! ## The norm of a row -/

/-- Division by the row length. -/
theorem div_c1024 (x : EReal) : Ideal.div x c1024 = x * ((1024 : ℝ)⁻¹ : ℝ) := by
  rw [c1024_eq, Ideal.div, if_neg (by norm_num), EReal.coe_inv]

/-- The reciprocal root mean square of a row of real numbers is real. -/
theorem rms_real {v : ℕ → EReal} (h : ∀ d : Fin 1024, IsReal (v d)) : IsReal (rms v) := by
  obtain ⟨e, he, hE⟩ := eps_pos
  obtain ⟨s, hs⟩ := IsReal.sum (g := fun d : Fin 1024 => v d * v d) fun d => (h d).mul (h d)
  have hs0 : 0 ≤ s := by
    rw [← EReal.coe_nonneg, ← hs]; exact Finset.sum_nonneg fun d _ => sq_nonneg' _
  have hpos : 0 < s * (1024 : ℝ)⁻¹ + e := by positivity
  refine ⟨(Real.sqrt (s * (1024 : ℝ)⁻¹ + e))⁻¹, ?_⟩
  rw [rms, hs, div_c1024, hE, ← EReal.coe_mul, ← EReal.coe_add]
  show (if _ < (0 : ℝ) then (⊥ : EReal) else if _ = (0 : ℝ) then ⊤ else _) = _
  rw [if_neg hpos.not_gt, if_neg hpos.ne']

/-- The reciprocal root mean square of a row with an infinite entry is zero. -/
theorem rms_zero {v : ℕ → EReal} (d : Fin 1024) (h : ¬IsReal (v d)) : rms v = 0 := by
  obtain ⟨e, he, hE⟩ := eps_pos
  have hs : ∑ d : Fin 1024, v d * v d = ⊤ := top_le_iff.mp
    ((sq_of_not_real h).ge.trans (Finset.single_le_sum (f := fun d : Fin 1024 => v d * v d) (fun d _ => sq_nonneg' _) (Finset.mem_univ d)))
  rw [rms, hs, div_c1024, EReal.top_mul_coe_of_pos (by norm_num), hE, EReal.top_add_coe]
  rfl

/-- An entry times its row's reciprocal root mean square is real, whatever the row holds. -/
theorem scaled_real (v : ℕ → EReal) (d : Fin 1024) : IsReal (v d * rms v) := by
  by_cases h : ∀ d : Fin 1024, IsReal (v d)
  · exact (h d).mul (rms_real h)
  · obtain ⟨k, hk⟩ := not_forall.mp h
    rw [rms_zero k hk, mul_zero]; exact IsReal.zero

/-! ## The gate -/

/-- `h + h tanh h` at half of `r` is `r` times its logistic. -/
theorem silu_real (r : ℝ) : 1 / 2 * r + 1 / 2 * r * Real.tanh (1 / 2 * r) = r * (1 + Real.exp (-r))⁻¹ := by
  have ha := Real.exp_pos (1 / 2 * r)
  have e1 : Real.exp (-(1 / 2 * r)) = (Real.exp (1 / 2 * r))⁻¹ := Real.exp_neg _
  have e2 : Real.exp (-r) = (Real.exp (1 / 2 * r))⁻¹ * (Real.exp (1 / 2 * r))⁻¹ := by
    rw [← e1, ← Real.exp_add]; congr 1; ring
  rw [Real.tanh_eq_sinh_div_cosh, Real.sinh_eq, Real.cosh_eq, e1, e2]
  have h1 : (0 : ℝ) < Real.exp (1 / 2 * r) + (Real.exp (1 / 2 * r))⁻¹ := by positivity
  have h2 : (0 : ℝ) < 1 + (Real.exp (1 / 2 * r))⁻¹ * (Real.exp (1 / 2 * r))⁻¹ := by positivity
  generalize Real.exp (1 / 2 * r) = a at *
  field_simp
  ring

/-- The kernel's gate from half of a real number is the reference's. -/
theorem gate_eq {g : EReal} (hg : IsReal g) (v : EReal) : Par.gate (half * g) v = g * Ideal.div 1 (1 + Ideal.exp (-g)) * v := by
  obtain ⟨r, rfl⟩ := hg
  have hpos : (0 : ℝ) < 1 + Real.exp (-r) := by positivity
  have e : 1 + Ideal.exp (-(r : EReal)) = ((1 + Real.exp (-r) : ℝ) : EReal) := by rw [← EReal.coe_neg, EReal.coe_add]; rfl
  have t : Ideal.tanh ((1 / 2 * r : ℝ) : EReal) = ((Real.tanh (1 / 2 * r) : ℝ) : EReal) := rfl
  rw [Par.gate, half_eq, ← EReal.coe_mul, t, ← EReal.coe_mul, ← EReal.coe_add, silu_real, e, Ideal.div,
    if_neg (by exact_mod_cast hpos.ne'), one_mul, ← EReal.coe_inv, ← EReal.coe_mul]

/-! ## The layer's functions -/

namespace Par

variable (p : Par)

/-- The convolution as the reference writes it: three products and the bias. -/
def CW (b t f : ℕ) : EReal := p.UH b t f * p.cw 0 f + p.UH b (t + 1) f * p.cw 1 f + p.UH b (t + 2) f * p.cw 2 f + p.cb f

/-- The gate's half of the convolution is real. -/
def RealGate : Prop := ∀ b t f, f < 2816 → IsReal (p.CW b t f)

end Par

variable (p : Par)

/-- The gain and the modulation's scale one after the other. -/
theorem HN_eq (b t d : ℕ) :
    p.HN b t d = p.X1 b t d * (rms (p.X1 b t) * (p.n2 d * (1 + p.md b (4096 + d)))) + p.md b (3072 + d) := by
  rw [Par.HN, Par.gain, mul_assoc]

/-- The convolution with its taps and bias scaled by a nonnegative real number is that multiple of the convolution. -/
theorem CV_eq {s : ℝ} (hs : 0 ≤ s) (b t f : ℕ) : p.CV s b t f = s * p.CW b t f := by
  have dist : ∀ x y : EReal, (s : EReal) * (x + y) = s * x + s * y :=
    fun x y => EReal.left_distrib_of_nonneg_of_ne_top (EReal.coe_nonneg.mpr hs) (EReal.coe_ne_top s) x y
  rw [Par.CV, Par.CW, dist, dist, dist, mul_left_comm (s : EReal), mul_left_comm (s : EReal), mul_left_comm (s : EReal)]
  ac_rfl

/-- The activation as the reference writes it. -/
theorem ACT_eq {p : Par} (hp : p.RealGate) (b t f : ℕ) (hf : f < 2816) :
    p.ACT b t f = p.CW b t f * Ideal.div 1 (1 + Ideal.exp (-p.CW b t f)) * p.CW b t (2816 + f) := by
  have h1 : p.CV one b t (2816 + f) = p.CW b t (2816 + f) := by
    rw [one_eq]; exact (CV_eq p zero_le_one b t _).trans (one_mul _)
  have h2 : p.CV half b t f = half * p.CW b t f := by
    rw [half_eq]; exact CV_eq p (by norm_num) b t f
  rw [Par.ACT, h1, h2, gate_eq (hp b t f hf)]

/-- A sum over `n + k` features, in two parts. -/
theorem sum_split (g : ℕ → EReal) (n k : ℕ) : (∑ f : Fin (n + k), g f) = (∑ f : Fin n, g f) + ∑ f : Fin k, g (n + f) := by
  rw [Fin.sum_univ_add]; rfl

/-- The down projection in one sum. -/
theorem Z_eq (b t d : ℕ) : p.Z b t d = ∑ f : Fin 2816, p.ACT b t f * p.wd f d := by
  have h1 := sum_split (fun f => p.ACT b t f * p.wd f d) 256 1280
  have h2 := sum_split (fun f => p.ACT b t f * p.wd f d) 1536 1280
  rw [Par.Z, Par.DN, Par.DN, Par.DN]
  simp only [Nat.zero_add]
  exact ((congrArg (· + _) h1).symm).trans h2.symm

/-- Where the modulation's shift and scale, the second norm's gain and the gate's half of the weights, taps and bias are
    real, so is the gate, whatever the residual stream holds. -/
theorem realGate (hm : ∀ b d, 3072 ≤ d → d < 5120 → IsReal (p.md b d)) (hn : ∀ d, d < 1024 → IsReal (p.n2 d))
    (hw : ∀ d f, d < 1024 → f < 2816 → IsReal (p.wu d f)) (hc : ∀ k f, k < 3 → f < 2816 → IsReal (p.cw k f))
    (hb : ∀ f, f < 2816 → IsReal (p.cb f)) : p.RealGate := by
  have hH : ∀ b t (d : Fin 1024), IsReal (p.HN b t d) := fun b t d =>
    (((scaled_real (p.X1 b t) d).mul ((hn d d.isLt).mul (IsReal.one.add (hm b (4096 + d) (by omega) (by omega)))))).add
      (hm b (3072 + d) (by omega) (by omega))
  have hU : ∀ b j f, f < 2816 → IsReal (p.UH b j f) := fun b j f hf =>
    IsReal.ite IsReal.zero (IsReal.sum fun d => (hH b (j - 2) d).mul (hw d f d.isLt hf))
  exact fun b t f hf => ((((hU b t f hf).mul (hc 0 f (by omega) hf)).add ((hU b (t + 1) f hf).mul (hc 1 f (by omega) hf))).add
    ((hU b (t + 2) f hf).mul (hc 2 f (by omega) hf))).add (hb f hf)

end Cert.FfnProof

end
-- ==== Proof.Ffn.Ref.lean ====
/- The reference's stages at an index: each is the layer's function of the same name, the activation where the gate is
   real. -/
module

public import proofs.«01_k».proof.Proof.Gen.FfnRefIdeal.Read
public import proofs.«01_k».proof.Proof.Ffn.Algebra
public import Idealize.ShloMosaic.Lib.Pointwise

@[expose] public section

set_option maxRecDepth 16384

noncomputable section

namespace Cert.FfnProof

open Idealize.ShloMosaic
open Cert.FfnRefIdeal.Read

variable (x0 : (⟨Cert.FfnRefIdeal.S8x2048x1024, .f32⟩ : BufTy).Contents (Elt Ideal))
  (x1 x2 : (⟨Cert.FfnRefIdeal.S8x2048x512, .bf16⟩ : BufTy).Contents (Elt Ideal))
  (x3 : (⟨Cert.FfnRefIdeal.S8x1x6144, .f32⟩ : BufTy).Contents (Elt Ideal))
  (x4 x5 : (⟨Cert.FfnRefIdeal.S1024, .f32⟩ : BufTy).Contents (Elt Ideal))
  (x6 : (⟨Cert.FfnRefIdeal.S1024x1024, .bf16⟩ : BufTy).Contents (Elt Ideal))
  (x7 : (⟨Cert.FfnRefIdeal.S1024x5632, .bf16⟩ : BufTy).Contents (Elt Ideal))
  (x8 : (⟨Cert.FfnRefIdeal.S3x5632, .f32⟩ : BufTy).Contents (Elt Ideal))
  (x9 : (⟨Cert.FfnRefIdeal.S5632, .f32⟩ : BufTy).Contents (Elt Ideal))
  (x10 : (⟨Cert.FfnRefIdeal.S2816x1024, .bf16⟩ : BufTy).Contents (Elt Ideal))

/-- The argument arrays hold the operands `p`. -/
structure Holds (p : Par) : Prop where
  x : ∀ b t d, x0 (ix3 b t d) = p.x b t d
  yr : ∀ b t d, x1 (ix3 b t d) = p.yr b t d
  ya : ∀ b t d, x2 (ix3 b t d) = p.ya b t d
  md : ∀ b z d, x3 (ix3 b z d) = p.md b d
  n2 : ∀ d, x4 (ix1 d) = p.n2 d
  fg : ∀ d, x5 (ix1 d) = p.fg d
  wo : ∀ k d, x6 (ix2 k d) = p.wo k d
  wu : ∀ k d, x7 (ix2 k d) = p.wu k d
  cw : ∀ k d, x8 (ix2 k d) = p.cw k d
  cb : ∀ d, x9 (ix1 d) = p.cb d
  wd : ∀ k d, x10 (ix2 k d) = p.wd k d

variable {x0 x1 x2 x3 x4 x5 x6 x7 x8 x9 x10} {p : Par} (H : Holds x0 x1 x2 x3 x4 x5 x6 x7 x8 x9 x10 p)
include H

/-- The output projection. -/
theorem y_at (b : Fin 8) (t : Fin 2048) (d : Fin 1024) : val_main_v13 x1 x2 x6 (ix3 b t d) = p.Y b t d := by
  pointwise [val_main_v13, val_main_v12, val_main_v0, val_main_v1, val_main_v2]
  simp only [H.yr, H.ya, H.wo]
  rfl

/-- The residual stream after the mixers. -/
theorem x1_at (b : Fin 8) (t : Fin 2048) (d : Fin 1024) : val_main_v17 x0 x1 x2 x3 x6 (ix3 b t d) = p.X1 b t d := by
  pointwise [val_main_v17, val_main_v16, val_main_v15, val_main_v14, val_main_v8, val_main_v5]
  simp only [y_at H, H.x, H.md]
  rfl

/-- The normed and modulated row. -/
theorem h_at (b : Fin 8) (t : Fin 2048) (d : Fin 1024) : val_main_v38 x0 x1 x2 x3 x4 x6 (ix3 b t d) = p.HN b t d := by
  pointwise [val_main_v18, val_main_v19, val_main_v20, val_main_v21, val_main_v22, val_main_v23, val_main_v24, val_main_v25,
    val_main_v26, val_main_v27, val_main_v28, val_main_v29, val_main_v30, val_main_v31, val_main_v32, val_main_v33,
    val_main_v34, val_main_v35, val_main_v36, val_main_v37, val_main_v38, val_main_v9, val_main_v10, val_main_v5,
    val_main_cst, val_main_cst_0, val_main_cst_1, val_main_cst_2]
  simp only [x1_at H, H.n2, H.md, mul_assoc]
  exact (HN_eq p b t d).symm

/-- The up projection. -/
theorem up_at (b : Fin 8) (t : Fin 2048) (f : Fin 5632) : val_main_v39 x0 x1 x2 x3 x4 x6 x7 (ix3 b t f) = p.UP b t f := by
  pointwise [val_main_v39, val_main_v3]
  simp only [h_at H, H.wu]
  rfl

/-- The up projection with two rows of zeros before it. -/
theorem pad_at (b : Fin 8) (j : Fin 2050) (f : Fin 5632) : val_main_v40 x0 x1 x2 x3 x4 x6 x7 (ix3 b j f) = p.UH b j f := by
  pointwise [val_main_v40, val_main_c, val_main_call0_v0]
  split
  · next h => rw [up_at H, Par.UH, if_neg (by omega)]
  · next h => rw [Par.UH, if_pos (by omega)]; exact (congrArg (fun z : ℤ => ((z : ℝ) : EReal)) (by decide : (0#32).toInt = 0)).trans (by simp)

/-- The convolution. -/
theorem conv_at (b : Fin 8) (t : Fin 2048) (f : Fin 5632) : val_main_v63 x0 x1 x2 x3 x4 x6 x7 x8 x9 (ix3 b t f) = p.CW b t f := by
  pointwise [val_main_v63, val_main_v62, val_main_v61, val_main_v60, val_main_v59, val_main_v58, val_main_v57, val_main_v56,
    val_main_v55, val_main_v54, val_main_v53, val_main_v52, val_main_v51, val_main_v50, val_main_v49, val_main_v48,
    val_main_v47, val_main_v46, val_main_v45, val_main_v44, val_main_v43, val_main_v42, val_main_v41]
  simp only [pad_at H, H.cw, H.cb, Par.CW, Nat.add_comm _ (t : ℕ)]
  rfl

/-- The activation. -/
theorem act_at (hp : p.RealGate) (b : Fin 8) (t : Fin 2048) (f : Fin 2816) :
    val_main_v68 x0 x1 x2 x3 x4 x6 x7 x8 x9 (ix3 b t f) = p.ACT b t f := by
  pointwise [val_main_v68, val_main_v67, val_main_v65, val_main_v64, val_main_call1_v0, val_main_call1_v1, val_main_call1_v2,
    val_main_call1_v3, val_main_call1_v4, val_main_call1_v5, val_main_call1_cst, val_main_call1_cst_0]
  simp only [conv_at H]
  exact (ACT_eq hp b t f f.isLt).symm

/-- The residual stream after the ConvFFN. -/
theorem x2_at (hp : p.RealGate) (b : Fin 8) (t : Fin 2048) (d : Fin 1024) :
    val_main_v72 x0 x1 x2 x3 x4 x6 x7 x8 x9 x10 (ix3 b t d) = p.X2 b t d := by
  pointwise [val_main_v72, val_main_v71, val_main_v70, val_main_v69, val_main_v66, val_main_v11, val_main_v5, val_main_v4]
  simp only [x1_at H, act_at H hp, H.md, H.wd]
  rw [Par.X2, Z_eq]

/-- The result. -/
theorem out_at (hp : p.RealGate) (b : Fin 8) (t : Fin 2048) (d : Fin 1024) :
    val_main_v85 x0 x1 x2 x3 x4 x5 x6 x7 x8 x9 x10 (ix3 b t d) = p.OUT b t d := by
  pointwise [val_main_v73, val_main_v74, val_main_v75, val_main_v76, val_main_v77, val_main_v78, val_main_v79, val_main_v80,
    val_main_v81, val_main_v82, val_main_v83, val_main_v84, val_main_v85, val_main_cst_3, val_main_cst_4, val_main_cst_5]
  simp only [x2_at H hp, H.fg]
  rfl

end Cert.FfnProof

end
-- ==== Proof.Ffn.Claims.lean ====
/- The claims of the output projection and ConvFFN: the reference's frame, what the precondition says, and that the kernel
   and the reference compute the same array. -/
module

public import proofs.«01_k».proof.Defs
public import proofs.«01_k».proof.Proof.Gen.Pre_finite_to_gate
public import proofs.«01_k».proof.Proof.Ffn.Array
public import proofs.«01_k».proof.Proof.Ffn.Ref

@[expose] public section

set_option maxRecDepth 16384

noncomputable section

namespace Cert.FfnProof

open Idealize.ShloMosaic Idealize.ShloMosaic.TcCoe Idealize.SL.Sem

/-! ## What the precondition says -/

/-- A magnitude below infinity is a real number's. -/
theorem real_of_lt {x : EReal} (h : Ideal.cmp .olt (max x (-x)) (Ideal.ofBits .f32 0x7F800000#32) = 1) : IsReal x := by
  have e : Ideal.ofBits .f32 0x7F800000#32 = ⊤ := by simp [Ideal.ofBits, Ideal.ieee]
  rw [e, Ideal.cmp_olt_eq_one] at h
  induction x with
  | bot => exact absurd h (by simp)
  | top => exact absurd h (by simp)
  | coe r => exact ⟨r, rfl⟩

/-- An entry by natural number index is real where every entry is, 0 outside. -/
theorem at1_real {a : ℕ} {v : (⟨1, ![a]⟩ : Shape).Idx → EReal} {i : ℕ} (h : ∀ hi : i < a, IsReal (v (ix1 ⟨i, hi⟩))) : IsReal (at1 v i) := by
  unfold at1; split
  · exact h _
  · exact IsReal.zero
theorem at2_real {a b : ℕ} {v : (⟨2, ![a, b]⟩ : Shape).Idx → EReal} {i j : ℕ} (h : ∀ (hi : i < a) (hj : j < b), IsReal (v (ix2 ⟨i, hi⟩ ⟨j, hj⟩))) :
    IsReal (at2 v i j) := by
  unfold at2; split
  · exact h _ _
  · exact IsReal.zero
theorem at3_real {a b d : ℕ} {v : (⟨3, ![a, b, d]⟩ : Shape).Idx → EReal} {i j k : ℕ}
    (h : ∀ (hi : i < a) (hj : j < b) (hk : k < d), IsReal (v (ix3 ⟨i, hi⟩ ⟨j, hj⟩ ⟨k, hk⟩))) : IsReal (at3 v i j k) := by
  unfold at3; split
  · exact h _ _ _
  · exact IsReal.zero

section

open Cert.FfnIdeal

variable (m : (ℓ : Loc nD τ sig) → Buf (Elt Ideal) ℓ)

/-- Under the precondition the gate is real. -/
theorem gate_real (h : Cert.Pre_FfnIdeal_finite_to_gate m) (c : Dev nD) : (par m c).RealGate := by
  obtain ⟨h1, h2, h3, h4, h5⟩ := h c
  refine realGate _ (fun b d hl hr => at3_real fun hb hz hd => ?_) (fun d hd => at1_real fun _ => ?_)
    (fun d f hd hf => at2_real fun _ hf' => ?_) (fun k f hk hf => at2_real fun _ hf' => ?_) (fun f hf => at1_real fun hf' => ?_)
  · obtain ⟨k, rfl⟩ := Nat.exists_eq_add_of_le hl
    have e := congrFun h1 (ix3 ⟨b, hb⟩ ⟨0, hz⟩ ⟨k, by omega⟩)
    pointwise [Cert.Pre_finite_to_gate.fn, Cert.Pre_finite_to_gate.fn_part1] at e
    exact real_of_lt e
  · have e := congrFun h2 (ix1 ⟨d, hd⟩)
    exact real_of_lt e
  · have e := congrFun h3 (ix2 ⟨d, hd⟩ ⟨f, hf⟩)
    pointwise [Cert.Pre_finite_to_gate.fn, Cert.Pre_finite_to_gate.fn_part1] at e
    exact real_of_lt e
  · have e := congrFun h4 (ix2 ⟨k, hk⟩ ⟨f, hf⟩)
    pointwise [Cert.Pre_finite_to_gate.fn, Cert.Pre_finite_to_gate.fn_part1] at e
    exact real_of_lt e
  · have e := congrFun h5 (ix1 ⟨f, hf⟩)
    pointwise [Cert.Pre_finite_to_gate.fn, Cert.Pre_finite_to_gate.fn_part1] at e
    exact real_of_lt e

end

/-! ## The claims -/

/-- The reference runs, leaves its arguments as they were and every counter at zero. -/
theorem ref_frame : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- Kernel and reference compute the same array over the extended reals. -/
theorem algebraic : Cert.algebraic_FfnIdeal_FfnRefIdeal_pre_finite_to_gate := by
  intro m ρ m' ρ' hpre hag
  refine ⟨fun c i => (par m c).OUT (i 0) (i 1) (i 2), ?_, ?_⟩
  · exact (θ_run Cert.FfnIdeal.defs _ _).mono (fun _ h c => ⟨(h c).1.trans (array_eq m c), (h c).2⟩) (Cert.FfnIdeal.Value.run_blocks m ρ)
  · refine (θ_run Cert.FfnRefIdeal.defs _ _).mono (fun _ h c => ⟨?_, (h c).2⟩) (Cert.FfnRefIdeal.Value.run (F := Ideal) m' ρ')
    refine ((h c).1.trans (Cert.FfnRefIdeal.Read.val_main_v85_eq ..)).trans ?_
    obtain ⟨a0, a1, a2, a3, a4, a5, a6, a7, a8, a9, a10⟩ := hag c
    show Cert.FfnRefIdeal.Read.val_main_v85 (F := Ideal) (m' ((c.tc : Thread Cert.FfnRefIdeal.nD Cert.FfnRefIdeal.τ).loc Cert.FfnRefIdeal.main_arg0))
      (m' ((c.tc : Thread Cert.FfnRefIdeal.nD Cert.FfnRefIdeal.τ).loc Cert.FfnRefIdeal.main_arg1))
      (m' ((c.tc : Thread Cert.FfnRefIdeal.nD Cert.FfnRefIdeal.τ).loc Cert.FfnRefIdeal.main_arg2))
      (m' ((c.tc : Thread Cert.FfnRefIdeal.nD Cert.FfnRefIdeal.τ).loc Cert.FfnRefIdeal.main_arg3))
      (m' ((c.tc : Thread Cert.FfnRefIdeal.nD Cert.FfnRefIdeal.τ).loc Cert.FfnRefIdeal.main_arg4))
      (m' ((c.tc : Thread Cert.FfnRefIdeal.nD Cert.FfnRefIdeal.τ).loc Cert.FfnRefIdeal.main_arg5))
      (m' ((c.tc : Thread Cert.FfnRefIdeal.nD Cert.FfnRefIdeal.τ).loc Cert.FfnRefIdeal.main_arg6))
      (m' ((c.tc : Thread Cert.FfnRefIdeal.nD Cert.FfnRefIdeal.τ).loc Cert.FfnRefIdeal.main_arg7))
      (m' ((c.tc : Thread Cert.FfnRefIdeal.nD Cert.FfnRefIdeal.τ).loc Cert.FfnRefIdeal.main_arg8))
      (m' ((c.tc : Thread Cert.FfnRefIdeal.nD Cert.FfnRefIdeal.τ).loc Cert.FfnRefIdeal.main_arg9))
      (m' ((c.tc : Thread Cert.FfnRefIdeal.nD Cert.FfnRefIdeal.τ).loc Cert.FfnRefIdeal.main_arg10)) = _
    rw [a0, a1, a2, a3, a4, a5, a6, a7, a8, a9, a10]
    have H : Holds _ _ _ _ _ _ _ _ _ _ _ (par m c) :=
      { x := fun _ _ _ => at3_eq (m ((c : Thread Cert.FfnIdeal.nD Cert.FfnIdeal.τ).loc Cert.FfnIdeal.main_arg0)) _ rfl rfl rfl
        yr := fun _ _ _ => at3_eq (m ((c : Thread Cert.FfnIdeal.nD Cert.FfnIdeal.τ).loc Cert.FfnIdeal.main_arg1)) _ rfl rfl rfl
        ya := fun _ _ _ => at3_eq (m ((c : Thread Cert.FfnIdeal.nD Cert.FfnIdeal.τ).loc Cert.FfnIdeal.main_arg2)) _ rfl rfl rfl
        md := fun _ z _ => at3_eq (m ((c : Thread Cert.FfnIdeal.nD Cert.FfnIdeal.τ).loc Cert.FfnIdeal.main_arg3)) _ rfl (Nat.lt_one_iff.mp z.isLt) rfl
        n2 := fun _ => at1_eq (m ((c : Thread Cert.FfnIdeal.nD Cert.FfnIdeal.τ).loc Cert.FfnIdeal.main_arg4)) _ rfl
        fg := fun _ => at1_eq (m ((c : Thread Cert.FfnIdeal.nD Cert.FfnIdeal.τ).loc Cert.FfnIdeal.main_arg5)) _ rfl
        wo := fun _ _ => at2_eq (m ((c : Thread Cert.FfnIdeal.nD Cert.FfnIdeal.τ).loc Cert.FfnIdeal.main_arg6)) _ rfl rfl
        wu := fun _ _ => at2_eq (m ((c : Thread Cert.FfnIdeal.nD Cert.FfnIdeal.τ).loc Cert.FfnIdeal.main_arg7)) _ rfl rfl
        cw := fun _ _ => at2_eq (m ((c : Thread Cert.FfnIdeal.nD Cert.FfnIdeal.τ).loc Cert.FfnIdeal.main_arg8)) _ rfl rfl
        cb := fun _ => at1_eq (m ((c : Thread Cert.FfnIdeal.nD Cert.FfnIdeal.τ).loc Cert.FfnIdeal.main_arg9)) _ rfl
        wd := fun _ _ => at2_eq (m ((c : Thread Cert.FfnIdeal.nD Cert.FfnIdeal.τ).loc Cert.FfnIdeal.main_arg10)) _ rfl rfl }
    funext i
    refine (congrArg _ (?_ : i = ix3 (i 0) (i 1) (i 2))).trans (out_at H (gate_real m hpre c) (i 0) (i 1) (i 2))
    exact funext fun a => match a with | ⟨0, _⟩ => rfl | ⟨1, _⟩ => rfl | ⟨2, _⟩ => rfl

end Cert.FfnProof

end
-- ==== Proof.Inproj.Spec.lean ====
/- What the layer's first call computes, as plain functions of natural number indices over the extended reals: batch `b`,
   time `t`, features `d`, `k` and `f`. -/
module

public import proofs.«01_k».proof.Proof.Ffn.Algebra

@[expose] public section

noncomputable section

namespace Cert.InprojProof

open Idealize.ShloMosaic
open Cert.FfnProof (rms half half_eq)

/-- The arguments that the queries, keys, values and later weights depend on, as functions of plain indices: the residual
    stream `x`, the modulation rows `md`, the norm's gain `n1`, and the weights `wi` (the input projection), `wo`, `wu` and
    `wd` (the later calls' weights). -/
structure Par where
  x : ℕ → ℕ → ℕ → EReal
  md : ℕ → ℕ → EReal
  n1 : ℕ → EReal
  wi : ℕ → ℕ → EReal
  wo : ℕ → ℕ → EReal
  wu : ℕ → ℕ → EReal
  wd : ℕ → ℕ → EReal

/-- The queries' scale: an eighth of log₂ e. -/
def qs : EReal := Ideal.ofBits .f32 0x3E38AA3B#32

/-- The scale of column `f` of the input projection's weights. -/
def sc (f : ℕ) : EReal := if 1024 ≤ f ∧ f < 1536 then qs else if 512 ≤ f ∧ f < 1024 then half else 1

namespace Par

variable (p : Par)

/-- The first norm's gain with the modulation's scale. -/
def gain (b d : ℕ) : EReal := p.n1 d * (1 + p.md b (1024 + d))

/-- The normed and modulated row. -/
def HN (b t d : ℕ) : EReal := p.x b t d * rms (p.x b t) * p.gain b d + p.md b d

/-- The input projection's scaled weights. -/
def WS (k f : ℕ) : EReal := p.wi k f * sc f

/-- Column `f` of the projection of a row by the scaled weights. -/
def PR (b t f : ℕ) : EReal := ∑ k : Fin 1024, p.HN b t k * p.WS k f

/-- The queries, keys and values. -/
def QKV (b t d : ℕ) : EReal := p.PR b t (1024 + d)

end Par

/-! ## The scale of a sum -/

/-- A real factor that isn't negative comes out of a sum. -/
theorem sum_scale {ι : Type} (s : Finset ι) (f : ι → EReal) {c : ℝ} (hc : 0 ≤ c) : ∑ k ∈ s, f k * (c : EReal) = (∑ k ∈ s, f k) * c := by
  classical
  induction s using Finset.induction_on with
  | empty => simp
  | insert a s ha ih =>
    rw [Finset.sum_insert ha, Finset.sum_insert ha, ih, EReal.right_distrib_of_nonneg_of_ne_top (EReal.coe_nonneg.mpr hc) (EReal.coe_ne_top c)]

/-- The queries' scale as a real number. -/
theorem qs_eq : qs = ((12102203 / 8388608 / 8 : ℝ) : EReal) := by
  rw [qs]; simp [Ideal.ofBits, Ideal.ieee]; rw [← EReal.coe_mul]; norm_num

/-- One eighth, the inverse root of a head's width. -/
theorem eighth_eq : Ideal.ofBits .f32 0x3E000000#32 = ((1 / 8 : ℝ) : EReal) := by
  simp [Ideal.ofBits, Ideal.ieee]; rw [← EReal.coe_mul]; norm_num

/-- The reference's log₂ e as a real number. -/
theorem log2e_eq : Ideal.ofBits .f32 0x3FB8AA3B#32 = ((12102203 / 8388608 : ℝ) : EReal) := by
  simp [Ideal.ofBits, Ideal.ieee]; rw [← EReal.coe_mul]; norm_num

/-- The queries: the plain projection, scaled as the reference scales it. -/
theorem Par.q_eq (p : Par) (b t : ℕ) {d : ℕ} (hd : d < 512) :
    p.QKV b t d = (∑ k : Fin 1024, p.HN b t k * p.wi k (1024 + d)) * Ideal.ofBits .f32 0x3E000000#32 * Ideal.ofBits .f32 0x3FB8AA3B#32 := by
  rw [eighth_eq, log2e_eq, mul_assoc, ← EReal.coe_mul, ← sum_scale _ _ (by norm_num)]
  unfold Par.QKV Par.PR
  refine Finset.sum_congr rfl fun k _ => ?_
  rw [Par.WS, sc, if_pos (by omega), qs_eq, mul_assoc]
  norm_num [mul_assoc]

/-- The keys and values: the plain projection. -/
theorem Par.kv_eq (p : Par) (b t : ℕ) {d : ℕ} (hd : 512 ≤ d) : p.QKV b t d = ∑ k : Fin 1024, p.HN b t k * p.wi k (1024 + d) := by
  unfold Par.QKV Par.PR
  refine Finset.sum_congr rfl fun k _ => ?_
  rw [Par.WS, sc, if_neg (by omega), if_neg (by omega), mul_one]

/-- The normed and modulated row in the reference's order. -/
theorem Par.HN_eq (p : Par) (b t d : ℕ) :
    p.HN b t d = p.x b t d * (rms (p.x b t) * (p.n1 d * (1 + p.md b (1024 + d)))) + p.md b d := by
  simp only [Par.HN, Par.gain, mul_assoc]

end Cert.InprojProof

end
-- ==== Proof.Inproj.Block.lean ====
/- What the first call's body computes from one block, as operations on vectors, each read against the layer's plain
   functions. Row `r` of a flattened tile is time `r % 64` of batch `r / 64`. -/
module

public import proofs.«01_k».proof.Proof.Gen.InprojIdeal.Skeleton
public import proofs.«01_k».proof.Proof.Ffn.Block
public import proofs.«01_k».proof.Proof.Inproj.Spec

@[expose] public section

set_option maxRecDepth 16384

noncomputable section

namespace Cert.InprojProof

open Idealize.ShloMosaic Idealize.ShloMosaic.TcCoe Idealize.SL.Sem
open Cert.InprojIdeal Cert.InprojIdeal.Gen
open Cert.FfnProof (rms half IsRow IsMat eq3 rms_congr)

/-- The reciprocal root mean square of every row of a tile. -/
abbrev rmsV (v : FVec Ideal S8x64x1024 .f32) : FVec Ideal S8x64x1 .f32 :=
  rsqrt (addf (divf (shapeCast S8x64x1 (multiReduction .add [2] S8x64 (mulf v v) 0x00000000#32 reduces_S8x64x1024_S8x64 (.inl rfl) rfl)
    shapeCasts_S8x64_S8x64x1) (broadcast S8x64x1 (Scalar.ofBits .f32 0x44800000#32))) (broadcast S8x64x1 (Scalar.ofBits .f32 0x358637BD#32)))

/-- A tile divided by its rows' root mean square. -/
abbrev normV (v : FVec Ideal S8x64x1024 .f32) : FVec Ideal S8x64x1024 .f32 :=
  mulf v (broadcastTo S8x64x1024 (rmsV v) broadcasts_S8x64x1_S8x64x1024)

/-- A tile normed, modulated and flattened. -/
abbrev headV (sh gn : FVec Ideal S8x1x1024 .f32) (x : FVec Ideal S8x64x1024 .f32) : FVec Ideal S512x1024 .bf16 :=
  truncf .bf16 (shapeCast S512x1024 (addf (mulf (normV x) (broadcastTo S8x64x1024 gn broadcasts_S8x1x1024_S8x64x1024))
    (broadcastTo S8x64x1024 sh broadcasts_S8x1x1024_S8x64x1024)) shapeCasts_S8x64x1024_S512x1024) bitsLt_bf16_f32

/-- A flattened tile projected onto 256 columns. -/
abbrev projV (h : FVec Ideal S512x1024 .bf16) (w : FVec Ideal S1024x256 .bf16) : FVec Ideal S8x64x256 .bf16 :=
  truncf .bf16 (shapeCast S8x64x256 (matmul dot_S512x1024_S1024x256_S512x256_1_0_0_1_n_n none h w (constant S512x256 .f32 0x00000000#32))
    shapeCasts_S512x256_S8x64x256) bitsLt_bf16_f32

/-- Some columns of the weights times a scale. -/
abbrev scaleV (s : BitVec 32) (w : FVec Ideal S1024x256 .f32) : FVec Ideal S1024x256 .bf16 :=
  shapeCast S1024x256 (truncf .bf16 (mulf w (broadcast S1024x256 (Scalar.ofBits .f32 s))) bitsLt_bf16_f32) shapeCasts_S1024x256_S1024x256

/-- Some columns of the weights as they are. -/
abbrev castV (w : FVec Ideal S1024x256 .f32) : FVec Ideal S1024x256 .bf16 :=
  shapeCast S1024x256 (truncf .bf16 w bitsLt_bf16_f32) shapeCasts_S1024x256_S1024x256

variable (p : Par)

/-- A flattened tile `v` holds the normed and modulated rows from time `t` on. -/
def IsHead (t : ℕ) (v : FVec Ideal S512x1024 .bf16) : Prop := ∀ (r : Fin 512) (d : Fin 1024), v (ix2 r d) = p.HN (r / 64) (t + r % 64) d

/-- The modulated gain. -/
theorem gain_is {v5 : FVec Ideal S1x1024 .f32} {v7 : FVec Ideal S8x1x1024 .f32} (h5 : IsMat (fun _ d => p.n1 d) 0 0 v5)
    (h7 : IsRow (fun b d => p.md b (1024 + d)) v7) : IsRow p.gain (k0_pay37 (F := Ideal) v5 v7) := by
  intro b d
  pointwise [k0_pay37]
  rw [h7, h5]
  simp [Par.gain]

/-- A normed tile, at an index. -/
theorem norm_at {t : ℕ} {v : FVec Ideal S8x64x1024 .f32} (h : ∀ (b : Fin 8) (τ : Fin 64) (d : Fin 1024), v (ix3 b τ d) = p.x b (t + τ) d)
    (b : Fin 8) (τ : Fin 64) (d : Fin 1024) : normV v (ix3 b τ d) = p.x b (t + τ) d * rms (p.x b (t + τ)) := by
  pointwise
  rw [rms_congr (h b τ), h]

/-- A tile of normed and modulated rows. -/
theorem head_is {t : ℕ} {sh gn : FVec Ideal S8x1x1024 .f32} {x : FVec Ideal S8x64x1024 .f32} (hs : IsRow (fun b d => p.md b (0 + d)) sh)
    (hg : IsRow p.gain gn) (hx : ∀ (b : Fin 8) (τ : Fin 64) (d : Fin 1024), x (ix3 b τ d) = p.x b (t + τ) d) : IsHead p t (headV sh gn x) := by
  intro r d
  have e := norm_at p hx ⟨r / 64, by omega⟩ ⟨r % 64, by omega⟩ d
  pointwise at e ⊢
  rw [e, hs, hg]
  simp [Par.HN]

/-- A tile projected onto 256 columns from column `c` on. -/
theorem proj_is {t c : ℕ} {h : FVec Ideal S512x1024 .bf16} {w : FVec Ideal S1024x256 .bf16} (hh : IsHead p t h) (hw : IsMat p.WS 0 c w)
    (b : Fin 8) (τ : Fin 64) (d : Fin 256) : projV h w (ix3 b τ d) = p.PR b (t + τ) (c + d) := by
  pointwise
  refine Finset.sum_congr rfl fun k _ => ?_
  have h1 : (b.val * 64 + τ.val) / 64 = b := by omega
  have h2 : (b.val * 64 + τ.val) % 64 = τ := by omega
  simp only [hh _ _, hw _ _, zero_add, h1, h2]

/-- Some columns of the weights times a scale. -/
theorem scale_at {s : BitVec 32} {c : ℕ} {w : FVec Ideal S1024x256 .f32} (hw : IsMat p.wi 0 c w) (r : Fin 1024) (f : Fin 256)
    (hs : sc (c + f) = Ideal.ofBits .f32 s) : scaleV s w (ix2 r f) = p.WS r (c + f) := by
  pointwise
  rw [hw, Par.WS, hs, Nat.zero_add]

/-- Some columns of the weights as they are. -/
theorem cast_at {c : ℕ} {w : FVec Ideal S1024x256 .f32} (hw : IsMat p.wi 0 c w) (r : Fin 1024) (f : Fin 256) (hs : sc (c + f) = 1) :
    castV w (ix2 r f) = p.WS r (c + f) := by
  pointwise
  rw [hw, Par.WS, hs, Nat.zero_add, mul_one]

end Cert.InprojProof

end
-- ==== Proof.Inproj.Reads.lean ====
/- The layer's operands read from the first call's argument arrays, and what a grid point's input blocks hold: point `t`
   works on times `128 t` to `128 t + 127` of every batch, and on a sixteenth of the rows of each later weight. -/
module

public import proofs.«01_k».proof.Proof.Gen.InprojIdeal.Value
public import proofs.«01_k».proof.Proof.Ffn.Reads
public import proofs.«01_k».proof.Proof.Inproj.Block

@[expose] public section

set_option maxRecDepth 16384

noncomputable section

namespace Cert.InprojProof

open Idealize.ShloMosaic Idealize.ShloMosaic.TcCoe Idealize.SL.Sem
open Idealize.ShloMosaic.Pipeline (Dat)
open Cert.InprojIdeal Cert.InprojIdeal.Gen
open Cert.FfnProof (IsRow IsMat eq3 eq2 at1 at2 at3 at1_eq at2_eq at3_eq norm_ix)

variable (m : (ℓ : Loc nD τ sig) → Buf (Elt Ideal) ℓ)

/-- The layer's operands, from the call's argument arrays. -/
def par (c : Dev nD) : Par where
  x := at3 (m ((c : Thread nD τ).loc main_arg0))
  md b k := at3 (m ((c : Thread nD τ).loc main_arg1)) b 0 k
  n1 := at1 (m ((c : Thread nD τ).loc main_arg2))
  wi := at2 (m ((c : Thread nD τ).loc main_arg3))
  wo := at2 (m ((c : Thread nD τ).loc main_arg11))
  wu := at2 (m ((c : Thread nD τ).loc main_arg12))
  wd := at2 (m ((c : Thread nD τ).loc main_arg13))

theorem idx0 : ∀ t : Fin cfg0.N, win0_0.index t = ![0, t.val, 0] := (by decide +kernel : ∀ t : Fin grid0.N, _)
theorem idx1 : ∀ t : Fin cfg0.N, win0_1.index t = ![0, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val, 0] := (by decide +kernel : ∀ t : Fin grid0.N, _)

/-! ## The input blocks of a grid point -/

theorem blk0 (c : Dev nD) (t : Fin cfg0.N) (y : S8x128x1024.Idx) : iblk m c 0 t y = (par m c).x (y 0) (128 * t.val + y 1) (y 2) := by
  show V m c main_arg0 ((win0_0.blk t).view.emb y) = _
  rw [V_main_arg0]
  refine at3_eq (m ((c : Thread nD τ).loc main_arg0)) _ ?_ ?_ ?_ <;> (blk_simp [idx0 t] <;> try omega)

theorem blk1 (c : Dev nD) (t : Fin cfg0.N) (y : S8x1x6144.Idx) : iblk m c 1 t y = (par m c).md (y 0) (y 2) := by
  show V m c main_arg1 ((win0_1.blk t).view.emb y) = _
  rw [V_main_arg1]
  refine at3_eq (m ((c : Thread nD τ).loc main_arg1)) _ ?_ ?_ ?_ <;> (blk_simp [idx1 t] <;> try omega)

theorem blk2 (c : Dev nD) (t : Fin cfg0.N) (y : S1x1024.Idx) : iblk m c 2 t y = (par m c).n1 (y 1) := by
  show V m c main_v0 ((win0_2.blk t).view.emb y) = _
  entry_read
  pointwise
  refine at1_eq (m ((c : Thread nD τ).loc main_arg2)) _ ?_ <;> (blk_simp [idx2 t] <;> try omega)

theorem blk3 (c : Dev nD) (t : Fin cfg0.N) (y : S1024x2560.Idx) : iblk m c 3 t y = (par m c).wi (y 0) (y 1) := by
  show V m c main_arg3 ((win0_3.blk t).view.emb y) = _
  rw [V_main_arg3]
  refine at2_eq (m ((c : Thread nD τ).loc main_arg3)) _ ?_ ?_ <;> (blk_simp [idx3 t] <;> try omega)

theorem blk11 (c : Dev nD) (t : Fin cfg0.N) (y : S64x1024.Idx) : iblk m c 11 t y = (par m c).wo (64 * t.val + y 0) (y 1) := by
  show V m c main_arg11 ((win0_11.blk t).view.emb y) = _
  rw [V_main_arg11]
  refine at2_eq (m ((c : Thread nD τ).loc main_arg11)) _ ?_ ?_ <;> (blk_simp [idx11 t] <;> try omega)

theorem blk12 (c : Dev nD) (t : Fin cfg0.N) (y : S64x5632.Idx) : iblk m c 12 t y = (par m c).wu (64 * t.val + y 0) (y 1) := by
  show V m c main_arg12 ((win0_12.blk t).view.emb y) = _
  rw [V_main_arg12]
  refine at2_eq (m ((c : Thread nD τ).loc main_arg12)) _ ?_ ?_ <;> (blk_simp [idx12 t] <;> try omega)

theorem blk13 (c : Dev nD) (t : Fin cfg0.N) (y : S176x1024.Idx) : iblk m c 13 t y = (par m c).wd (176 * t.val + y 0) (y 1) := by
  show V m c main_arg13 ((win0_13.blk t).view.emb y) = _
  rw [V_main_arg13]
  refine at2_eq (m ((c : Thread nD τ).loc main_arg13)) _ ?_ ?_ <;> (blk_simp [idx13 t] <;> try omega)

/-! ## The loads of a grid point -/

theorem ldX (c : Dev nD) (t : Fin cfg0.N) {o T : ℕ} {h} (hT : T = 128 * t.val + o) (b : Fin 8) (τ : Fin 64) (d : Fin 1024) :
    View.ld (iblk m c 0 t) (Rect.unit ![0, o, 0] ![8, 64, 1024] h) (ix3 b τ d) = (par m c).x b (T + τ) d := by
  refine (blk0 m c t _).trans (eq3 _ ?_ ?_ ?_) <;> simp only [Rect.idx_unit_val] <;> simp [ix3] <;> omega

theorem ldM (c : Dev nD) (t : Fin cfg0.N) {o : ℕ} {h} :
    IsRow (fun b d => (par m c).md b (o + d)) (View.ld (iblk m c 1 t) (Rect.unit ![0, 0, o] ![8, 1, 1024] h)) := by
  intro b d
  refine (blk1 m c t _).trans (eq2 _ ?_ ?_) <;> simp only [Rect.idx_unit_val] <;> simp [ix3]

theorem ldN (c : Dev nD) (t : Fin cfg0.N) : IsMat (φ := .f32) (fun _ d => (par m c).n1 d) 0 0 (iblk m c 2 t) := by
  intro r d
  refine (blk2 m c t _).trans ?_
  simp [ix2]

theorem ldW (c : Dev nD) (t : Fin cfg0.N) {k : ℕ} {h} :
    IsMat (m := 1024) (n := 256) (φ := .f32) (par m c).wi 0 k (View.ld (iblk m c 3 t) (Rect.unit ![0, k] ![1024, 256] h)) := by
  intro r d
  refine (blk3 m c t _).trans (eq2 _ ?_ ?_) <;> simp only [Rect.idx_unit_val] <;> simp [ix2]

/-- Some columns of the scaled weights that the first point left. -/
theorem ldS {F : ℕ → ℕ → EReal} {s : FVec Ideal S1024x2560 .bf16} (hs : IsMat F 0 0 s) {k : ℕ} {h} :
    IsMat (m := 1024) (n := 256) (φ := .bf16) F 0 k (View.ld (Val := Elt Ideal) (e' := .bf16) s (Rect.unit ![0, k] ![1024, 256] h)) := by
  intro r f
  have hk : k + 256 ≤ 2560 := h 1
  have e : (Rect.unit ![0, k] ![1024, 256] h).idx (ix2 r f) = ix2 r ⟨k + f, by omega⟩ := by
    refine norm_ix _ _ _ ?_ ?_ <;> simp only [Rect.idx_unit_val] <;> simp [ix2]
  refine (congrArg s e).trans ((hs _ _).trans (eq2 _ rfl (Nat.zero_add _)))

end Cert.InprojProof

end
-- ==== Proof.Inproj.Step.lean ====
/- One grid point of the first call: the scaled weights it leaves, its block of the queries, keys and values, and its blocks
   of the later weights. -/
module

public import proofs.«01_k».proof.Proof.Inproj.Reads
public import Idealize.ShloMosaic.Lib.Pipeline.ReadBack

@[expose] public section

set_option maxRecDepth 16384

noncomputable section

namespace Cert.InprojProof

open Idealize.ShloMosaic Idealize.ShloMosaic.TcCoe Idealize.SL.Sem
open Idealize.ShloMosaic.Pipeline (Dat)
open Cert.InprojIdeal Cert.InprojIdeal.Gen
open Cert.FfnProof (IsRow IsMat eq3 eq2 half)

variable (m : (ℓ : Loc nD τ sig) → Buf (Elt Ideal) ℓ)

theorem sc_one {f : ℕ} (h : f < 512 ∨ 1536 ≤ f) : sc f = 1 := by rw [sc, if_neg (by omega), if_neg (by omega)]
theorem sc_half {f : ℕ} (h : 512 ≤ f ∧ f < 1024) : sc f = Ideal.ofBits .f32 0x3F000000#32 := by rw [sc, if_neg (by omega), if_pos h, half]
theorem sc_qs {f : ℕ} (h : 1024 ≤ f ∧ f < 1536) : sc f = Ideal.ofBits .f32 0x3E38AA3B#32 := by rw [sc, if_pos h, qs]

/-- The columns of the weights that the queries' scale is on, as a point reads and scales them. -/
theorem qcols (c : Dev nD) (t : Fin cfg0.N) {k : ℕ} {h} (hk : 1024 ≤ k ∧ k + 256 ≤ 1536) :
    IsMat (m := 1024) (n := 256) (φ := .bf16) (par m c).WS 0 k (scaleV 0x3E38AA3B#32 (View.ld (iblk m c 3 t) (Rect.unit ![0, k] ![1024, 256] h))) :=
  fun r f => (scale_at (par m c) (ldW m c t) r f (sc_qs (by omega))).trans (eq2 _ (Nat.zero_add _).symm rfl)

/-- The columns of the keys' and values' weights, as a point reads them. -/
theorem kvcols (c : Dev nD) (t : Fin cfg0.N) {k : ℕ} {h} (hk : 1536 ≤ k) :
    IsMat (m := 1024) (n := 256) (φ := .bf16) (par m c).WS 0 k (castV (View.ld (iblk m c 3 t) (Rect.unit ![0, k] ![1024, 256] h))) :=
  fun r f => (cast_at (par m c) (ldW m c t) r f (sc_one (by omega))).trans (eq2 _ (Nat.zero_add _).symm rfl)

/-- A piece of the queries, keys and values: 256 columns from `k` on, of the tile that starts `q` times into the point's
    stretch. -/
theorem piece_at (c : Dev nD) (t : Fin cfg0.N) (q k : ℕ) {w : FVec Ideal S1024x256 .bf16} (hw : IsMat (par m c).WS 0 (1024 + k) w) {e1 e2 e3}
    {y : S8x128x1536.Idx} {b : Fin 8} {τ : Fin 64} {d : Fin 256} (h0 : (y 0).val = b) (h1 : (y 1).val = q + τ) (h2 : (y 2).val = k + d) :
    projV (headV (View.ld (iblk m c 1 t) (Rect.unit ![0, 0, 0] ![8, 1, 1024] e1))
      (k0_pay37 (F := Ideal) (iblk m c 2 t) (View.ld (iblk m c 1 t) (Rect.unit ![0, 0, 1024] ![8, 1, 1024] e2)))
      (View.ld (iblk m c 0 t) (Rect.unit ![0, q, 0] ![8, 64, 1024] e3))) w (ix3 b τ d) = (par m c).QKV (y 0) (128 * t.val + y 1) (y 2) := by
  refine (proj_is (par m c) (head_is (par m c) (ldM m c t) (gain_is (par m c) (ldN m c t) (ldM m c t)) (ldX m c t rfl)) hw b τ d).trans ?_
  rw [Par.QKV]
  exact eq3 _ h0.symm (by omega) (by omega)

/-- The first point leaves the scaled weights. -/
theorem weights_A (c : Dev nD) (t : Fin cfg0.N) (h : t.val % 16 = 0) (y : S1024x2560.Idx) :
    (outsAt0 m c t.val t.isLt).2.2.2.2.2.2.2.1 y = (par m c).WS (y 0) (y 1) := by
  rw [outsAt0_A m c t h]
  frame_open
  frame_out
  canon_tiles x h
  all_goals idx_vars x
  · exact (cast_at (par m c) (ldW m c t) x0 x1 (sc_one (by omega))).trans (eq2 _ h0.symm h1.symm)
  · exact (cast_at (par m c) (ldW m c t) x0 x1 (sc_one (by omega))).trans (eq2 _ h0.symm h1.symm)
  · exact (cast_at (par m c) (ldW m c t) x0 x1 (sc_one (by omega))).trans (eq2 _ h0.symm h1.symm)
  · exact (cast_at (par m c) (ldW m c t) x0 x1 (sc_one (by omega))).trans (eq2 _ h0.symm h1.symm)
  · exact (scale_at (par m c) (ldW m c t) x0 x1 (sc_qs (by omega))).trans (eq2 _ h0.symm h1.symm)
  · exact (scale_at (par m c) (ldW m c t) x0 x1 (sc_qs (by omega))).trans (eq2 _ h0.symm h1.symm)
  · exact (scale_at (par m c) (ldW m c t) x0 x1 (sc_half (by omega))).trans (eq2 _ h0.symm h1.symm)
  · exact (scale_at (par m c) (ldW m c t) x0 x1 (sc_half (by omega))).trans (eq2 _ h0.symm h1.symm)
  · exact (cast_at (par m c) (ldW m c t) x0 x1 (sc_one (by omega))).trans (eq2 _ h0.symm h1.symm)
  · exact (cast_at (par m c) (ldW m c t) x0 x1 (sc_one (by omega))).trans (eq2 _ h0.symm (by omega))

/-- A later point leaves the scaled weights as it found them. -/
theorem weights_B (c : Dev nD) (t : Fin cfg0.N) (h : ¬t.val % 16 = 0) :
    (outsAt0 m c t.val t.isLt).2.2.2.2.2.2.2.1 = (outsAt0 m c (t.val - 1) (by omega)).2.2.2.2.2.2.2.1 := by
  rw [outsAt0_B m c t h]
  exact rfl

/-- The first point's block of the queries, keys and values. -/
theorem qkv_A (c : Dev nD) (t : Fin cfg0.N) (h : t.val % 16 = 0) (y : S8x128x1536.Idx) :
    (outsAt0 m c t.val t.isLt).1 y = (par m c).QKV (y 0) (128 * t.val + y 1) (y 2) := by
  rw [outsAt0_A m c t h]
  frame_open
  simp (disch := decide) only [↓ View.readCov_skip, ↓ View.readCov_cons_toLoadRect, ↓ View.readCov_fill]
  frame_out
  canon_tiles x h
  all_goals idx_vars x
  · exact piece_at m c t 64 1280 (kvcols m c t (by omega)) h0 (by omega) (by omega)
  · exact piece_at m c t 64 1024 (kvcols m c t (by omega)) h0 (by omega) (by omega)
  · exact piece_at m c t 64 768 (kvcols m c t (by omega)) h0 (by omega) (by omega)
  · exact piece_at m c t 64 512 (kvcols m c t (by omega)) h0 (by omega) (by omega)
  · exact piece_at m c t 64 256 (qcols m c t (by omega)) h0 (by omega) (by omega)
  · exact piece_at m c t 64 0 (qcols m c t (by omega)) h0 (by omega) (by omega)
  · exact piece_at m c t 0 1280 (kvcols m c t (by omega)) h0 (by omega) (by omega)
  · exact piece_at m c t 0 1024 (kvcols m c t (by omega)) h0 (by omega) (by omega)
  · exact piece_at m c t 0 768 (kvcols m c t (by omega)) h0 (by omega) (by omega)
  · exact piece_at m c t 0 512 (kvcols m c t (by omega)) h0 (by omega) (by omega)
  · exact piece_at m c t 0 256 (qcols m c t (by omega)) h0 (by omega) (by omega)
  · exact piece_at m c t 0 0 (qcols m c t (by omega)) h0 (by omega) (by omega)

/-- A later point's block of the queries, keys and values. -/
theorem qkv_B (c : Dev nD) (t : Fin cfg0.N) (h : ¬t.val % 16 = 0)
    (hs : IsMat (φ := .bf16) (par m c).WS 0 0 (outsAt0 m c (t.val - 1) (by omega)).2.2.2.2.2.2.2.1) (y : S8x128x1536.Idx) :
    (outsAt0 m c t.val t.isLt).1 y = (par m c).QKV (y 0) (128 * t.val + y 1) (y 2) := by
  rw [outsAt0_B m c t h]
  frame_open
  frame_out
  simp only [read_unread_whole]
  canon_tiles x h
  all_goals idx_vars x
  · exact piece_at m c t 64 1280 (ldS hs) h0 (by omega) (by omega)
  · exact piece_at m c t 64 1024 (ldS hs) h0 (by omega) (by omega)
  · exact piece_at m c t 64 768 (ldS hs) h0 (by omega) (by omega)
  · exact piece_at m c t 64 512 (ldS hs) h0 (by omega) (by omega)
  · exact piece_at m c t 64 256 (ldS hs) h0 (by omega) (by omega)
  · exact piece_at m c t 64 0 (ldS hs) h0 (by omega) (by omega)
  · exact piece_at m c t 0 1280 (ldS hs) h0 (by omega) (by omega)
  · exact piece_at m c t 0 1024 (ldS hs) h0 (by omega) (by omega)
  · exact piece_at m c t 0 768 (ldS hs) h0 (by omega) (by omega)
  · exact piece_at m c t 0 512 (ldS hs) h0 (by omega) (by omega)
  · exact piece_at m c t 0 256 (ldS hs) h0 (by omega) (by omega)
  · exact piece_at m c t 0 0 (ldS hs) h0 (by omega) (by omega)

/-- A point's block of the attention's output weights. -/
theorem wo_all (c : Dev nD) (t : Fin cfg0.N) (y : S64x1024.Idx) :
    (outsAt0 m c t.val t.isLt).2.2.1 y = (par m c).wo (64 * t.val + y 0) (y 1) := by
  by_cases h : t.val % 16 = 0
  · rw [outsAt0_A m c t h]
    frame_open
    frame_out
    exact blk11 m c t y
  · rw [outsAt0_B m c t h]
    frame_open
    frame_out
    exact blk11 m c t y

/-- A point's block of the layer's two up weights. -/
theorem wu_all (c : Dev nD) (t : Fin cfg0.N) (y : S64x5632.Idx) :
    (outsAt0 m c t.val t.isLt).2.2.2.1 y = (par m c).wu (64 * t.val + y 0) (y 1) := by
  by_cases h : t.val % 16 = 0
  · rw [outsAt0_A m c t h]
    frame_open
    frame_out
    exact blk12 m c t y
  · rw [outsAt0_B m c t h]
    frame_open
    frame_out
    exact blk12 m c t y

/-- A point's block of the layer's down weights. -/
theorem wd_all (c : Dev nD) (t : Fin cfg0.N) (y : S176x1024.Idx) :
    (outsAt0 m c t.val t.isLt).2.2.2.2.1 y = (par m c).wd (176 * t.val + y 0) (y 1) := by
  by_cases h : t.val % 16 = 0
  · rw [outsAt0_A m c t h]
    frame_open
    frame_out
    exact blk13 m c t y
  · rw [outsAt0_B m c t h]
    frame_open
    frame_out
    exact blk13 m c t y

end Cert.InprojProof

end
-- ==== Proof.Inproj.Array.lean ====
/- The first call's result arrays: the queries, keys and values at every batch, time and column, and the later weights. -/
module

public import proofs.«01_k».proof.Proof.Inproj.Step

@[expose] public section

set_option maxRecDepth 16384

noncomputable section

namespace Cert.InprojProof

open Idealize.ShloMosaic Idealize.ShloMosaic.TcCoe Idealize.SL.Sem
open Idealize.ShloMosaic.Pipeline (Dat)
open Cert.InprojIdeal Cert.InprojIdeal.Gen
open Cert.FfnProof (IsMat eq3 eq2)

variable (m : (ℓ : Loc nD τ sig) → Buf (Elt Ideal) ℓ)

/-- Every point leaves the scaled weights. -/
theorem weights_all (c : Dev nD) : ∀ (n : ℕ) (hn : n < cfg0.N),
    IsMat (m := 1024) (n := 2560) (φ := .bf16) (par m c).WS 0 0 (outsAt0 m c n hn).2.2.2.2.2.2.2.1
  | 0, hn => fun r f => (weights_A m c ⟨0, hn⟩ (Nat.zero_mod _) (ix2 r f)).trans (eq2 _ (Nat.zero_add _).symm (Nat.zero_add _).symm)
  | n + 1, hn => fun r f => by
    by_cases h : (n + 1) % 16 = 0
    · exact (weights_A m c ⟨n + 1, hn⟩ h (ix2 r f)).trans (eq2 _ (Nat.zero_add _).symm (Nat.zero_add _).symm)
    · exact (congrFun (weights_B m c ⟨n + 1, hn⟩ h) _).trans (weights_all c n (Nat.lt_of_succ_lt hn) r f)

/-- Point `t` writes the queries, keys and values on its stretch. -/
theorem qkv_all (c : Dev nD) (t : Fin cfg0.N) (y : S8x128x1536.Idx) :
    (outsAt0 m c t.val t.isLt).1 y = (par m c).QKV (y 0) (128 * t.val + y 1) (y 2) := by
  by_cases h : t.val % 16 = 0
  · exact qkv_A m c t h y
  · exact qkv_B m c t h (weights_all m c _ _) y

theorem idx14 : ∀ t : Fin cfg0.N, win0_14.index t = ![0, t.val, 0] := (by decide +kernel : ∀ t : Fin grid0.N, _)
theorem idx16 : ∀ t : Fin cfg0.N, win0_16.index t = ![t.val, 0] := (by decide +kernel : ∀ t : Fin grid0.N, _)
theorem idx17 : ∀ t : Fin cfg0.N, win0_17.index t = ![t.val, 0] := (by decide +kernel : ∀ t : Fin grid0.N, _)
theorem idx18 : ∀ t : Fin cfg0.N, win0_18.index t = ![t.val, 0] := (by decide +kernel : ∀ t : Fin grid0.N, _)

/-- The queries, keys and values. -/
theorem qkv_eq (c : Dev nD) : (dats m 0 c).arrAt 14 cfg0.N = fun i => (par m c).QKV (i 0) (i 1) (i 2) := by
  refine (dats m 0 c).arrAt_eq_of_covers 14 _ (by decide +kernel) fun t hf y => ?_
  blk_simp
  rw [after0_14]
  refine (qkv_all m c t y).trans (eq3 _ ?_ ?_ ?_) <;> (blk_simp [idx14 t] <;> try omega)

/-- The output projection's weights. -/
theorem wo_eq (c : Dev nD) : (dats m 0 c).arrAt 16 cfg0.N = fun i => (par m c).wo (i 0) (i 1) := by
  refine (dats m 0 c).arrAt_eq_of_covers 16 _ (by decide +kernel) fun t hf y => ?_
  blk_simp
  rw [after0_16]
  refine (wo_all m c t y).trans (eq2 _ ?_ ?_) <;> (blk_simp [idx16 t] <;> try omega)

/-- The up projection's weights. -/
theorem wu_eq (c : Dev nD) : (dats m 0 c).arrAt 17 cfg0.N = fun i => (par m c).wu (i 0) (i 1) := by
  refine (dats m 0 c).arrAt_eq_of_covers 17 _ (by decide +kernel) fun t hf y => ?_
  blk_simp
  rw [after0_17]
  refine (wu_all m c t y).trans (eq2 _ ?_ ?_) <;> (blk_simp [idx17 t] <;> try omega)

/-- The down projection's weights. -/
theorem wd_eq (c : Dev nD) : (dats m 0 c).arrAt 18 cfg0.N = fun i => (par m c).wd (i 0) (i 1) := by
  refine (dats m 0 c).arrAt_eq_of_covers 18 _ (by decide +kernel) fun t hf y => ?_
  blk_simp
  rw [after0_18]
  refine (wd_all m c t y).trans (eq2 _ ?_ ?_) <;> (blk_simp [idx18 t] <;> try omega)

end Cert.InprojProof

end
-- ==== Proof.Inproj.Ref.lean ====
/- The reference's stages for the first call at an index: each is the layer's function of the same name. -/
module

public import proofs.«01_k».proof.Proof.Gen.InprojRefIdeal.Read
public import proofs.«01_k».proof.Proof.Inproj.Spec
public import Idealize.ShloMosaic.Lib.Pointwise

@[expose] public section

set_option maxRecDepth 16384

noncomputable section

namespace Cert.InprojProof

open Idealize.ShloMosaic
open Cert.InprojRefIdeal.Read

variable (x0 : (⟨Cert.InprojRefIdeal.S8x2048x1024, .f32⟩ : BufTy).Contents (Elt Ideal))
  (x1 : (⟨Cert.InprojRefIdeal.S8x1x6144, .f32⟩ : BufTy).Contents (Elt Ideal))
  (x2 : (⟨Cert.InprojRefIdeal.S1024, .f32⟩ : BufTy).Contents (Elt Ideal))
  (x3 : (⟨Cert.InprojRefIdeal.S1024x2560, .f32⟩ : BufTy).Contents (Elt Ideal))

/-- The argument arrays hold the operands `p`. -/
structure Holds (p : Par) : Prop where
  x : ∀ b t d, x0 (ix3 b t d) = p.x b t d
  md : ∀ b z d, x1 (ix3 b z d) = p.md b d
  n1 : ∀ d, x2 (ix1 d) = p.n1 d
  wi : ∀ k d, x3 (ix2 k d) = p.wi k d

variable {x0 x1 x2 x3} {p : Par} (H : Holds x0 x1 x2 x3 p)
include H

/-- The normed and modulated row. -/
theorem h_at (b : Fin 8) (t : Fin 2048) (d : Fin 1024) : val_main_v27 x0 x1 x2 (ix3 b t d) = p.HN b t d := by
  pointwise [val_main_v27, val_main_v26, val_main_v25, val_main_v24, val_main_v23, val_main_v22, val_main_v21, val_main_v20,
    val_main_v19, val_main_v18, val_main_v17, val_main_v16, val_main_v15, val_main_v14, val_main_v13, val_main_v12,
    val_main_v11, val_main_v10, val_main_v9, val_main_v8, val_main_v7, val_main_v2, val_main_v1, val_main_v0,
    val_main_cst, val_main_cst_0, val_main_cst_1, val_main_cst_2]
  simp only [H.x, H.n1, H.md, mul_assoc]
  exact (Par.HN_eq p b t d).symm

/-- The projection onto the queries', keys' and values' columns. -/
theorem pr_at (b : Fin 8) (t : Fin 2048) (d : Fin 1536) :
    val_main_v29 x0 x1 x2 x3 (ix3 b t d) = ∑ k : Fin 1024, p.HN b t k * p.wi k (1024 + d) := by
  pointwise [val_main_v29, val_main_v28]
  simp only [h_at H, H.wi]

/-- The queries, keys and values. -/
theorem qkv_at (b : Fin 8) (t : Fin 2048) (d : Fin 1536) : val_main_v38 x0 x1 x2 x3 (ix3 b t d) = p.QKV b t d := by
  pointwise [val_main_v38, val_main_v37, val_main_v36, val_main_v35, val_main_v34, val_main_v33, val_main_v32, val_main_v31,
    val_main_v30, val_main_cst_3, val_main_cst_4]
  simp only [pr_at H]
  split_ifs
  · exact (Par.q_eq p b t (by omega)).symm
  all_goals
    refine Eq.trans ?_ (Par.kv_eq p b t (by omega)).symm
    refine Finset.sum_congr rfl fun k _ => ?_
    congr 2
    omega

end Cert.InprojProof

end
-- ==== Proof.Inproj.Claims.lean ====
/- The claims of the first call: the reference's frame, and that the kernel and the reference compute the same arrays. -/
module

public import proofs.«01_k».proof.Defs
public import proofs.«01_k».proof.Proof.Inproj.Array
public import proofs.«01_k».proof.Proof.Inproj.Ref

@[expose] public section

set_option maxRecDepth 16384

noncomputable section

namespace Cert.InprojProof

open Idealize.ShloMosaic Idealize.ShloMosaic.TcCoe Idealize.SL.Sem
open Cert.FfnProof (at1_eq at2_eq at3_eq)

/-- The reference runs, leaves its arguments as they were and every counter at zero. -/
theorem ref_frame : Cert.quiescent_InprojRefIdeal := fun m ρ _ =>
  (θ_run Cert.InprojRefIdeal.defs _ _).mono (fun r h => ⟨fun c => (h c).2.2.2.2, sem_eq_zero_of_no_sems (by decide) r.2⟩)
    (Cert.InprojRefIdeal.Value.run (F := Ideal) m ρ)

/-- Kernel and reference compute the same queries, keys and values, and the same later weights, over the extended reals. -/
theorem algebraic : Cert.algebraic_InprojIdeal_InprojRefIdeal := by
  intro m ρ m' ρ' _ hag
  refine ⟨fun c i => (par m c).QKV (i 0) (i 1) (i 2), fun c i => (par m c).wo (i 0) (i 1), fun c i => (par m c).wu (i 0) (i 1),
    fun c i => (par m c).wd (i 0) (i 1), ?_, ?_⟩
  · exact (θ_run Cert.InprojIdeal.defs _ _).mono (fun _ h c => ⟨(h c).1.trans (qkv_eq m c), (h c).2.2.1.trans (wo_eq m c),
      (h c).2.2.2.1.trans (wu_eq m c), (h c).2.2.2.2.1.trans (wd_eq m c), (h c).2.2.2.2.2⟩) (Cert.InprojIdeal.Value.run_blocks m ρ)
  · refine (θ_run Cert.InprojRefIdeal.defs _ _).mono (fun _ h c => ?_) (Cert.InprojRefIdeal.Value.run (F := Ideal) m' ρ')
    obtain ⟨a0, a1, a2, a3, -, -, -, -, -, -, -, a11, a12, a13⟩ := hag c
    refine ⟨?_, (h c).2.1.trans ?_, (h c).2.2.1.trans ?_, (h c).2.2.2.1.trans ?_, (h c).2.2.2.2⟩
    · refine ((h c).1.trans (Cert.InprojRefIdeal.Read.val_main_v38_eq ..)).trans ?_
      show Cert.InprojRefIdeal.Read.val_main_v38 (F := Ideal) (m' ((c.tc : Thread Cert.InprojRefIdeal.nD Cert.InprojRefIdeal.τ).loc Cert.InprojRefIdeal.main_arg0))
        (m' ((c.tc : Thread Cert.InprojRefIdeal.nD Cert.InprojRefIdeal.τ).loc Cert.InprojRefIdeal.main_arg1))
        (m' ((c.tc : Thread Cert.InprojRefIdeal.nD Cert.InprojRefIdeal.τ).loc Cert.InprojRefIdeal.main_arg2))
        (m' ((c.tc : Thread Cert.InprojRefIdeal.nD Cert.InprojRefIdeal.τ).loc Cert.InprojRefIdeal.main_arg3)) = _
      rw [a0, a1, a2, a3]
      have H : Holds _ _ _ _ (par m c) :=
        { x := fun _ _ _ => at3_eq (m ((c : Thread Cert.InprojIdeal.nD Cert.InprojIdeal.τ).loc Cert.InprojIdeal.main_arg0)) _ rfl rfl rfl
          md := fun _ z _ => at3_eq (m ((c : Thread Cert.InprojIdeal.nD Cert.InprojIdeal.τ).loc Cert.InprojIdeal.main_arg1)) _ rfl (Nat.lt_one_iff.mp z.isLt) rfl
          n1 := fun _ => at1_eq (m ((c : Thread Cert.InprojIdeal.nD Cert.InprojIdeal.τ).loc Cert.InprojIdeal.main_arg2)) _ rfl
          wi := fun _ _ => at2_eq (m ((c : Thread Cert.InprojIdeal.nD Cert.InprojIdeal.τ).loc Cert.InprojIdeal.main_arg3)) _ rfl rfl }
      funext i
      refine (congrArg _ (?_ : i = ix3 (i 0) (i 1) (i 2))).trans (qkv_at H (i 0) (i 1) (i 2))
      exact funext fun a => match a with | ⟨0, _⟩ => rfl | ⟨1, _⟩ => rfl | ⟨2, _⟩ => rfl
    · rw [a11]
      exact funext fun i => at2_eq (m ((c : Thread Cert.InprojIdeal.nD Cert.InprojIdeal.τ).loc Cert.InprojIdeal.main_arg11)) i rfl rfl
    · rw [a12]
      exact funext fun i => at2_eq (m ((c : Thread Cert.InprojIdeal.nD Cert.InprojIdeal.τ).loc Cert.InprojIdeal.main_arg12)) i rfl rfl
    · rw [a13]
      exact funext fun i => at2_eq (m ((c : Thread Cert.InprojIdeal.nD Cert.InprojIdeal.τ).loc Cert.InprojIdeal.main_arg13)) i rfl rfl

end Cert.InprojProof

end
-- ==== Proof.Ada.Values.lean ====
/- The modulation's projection: what its body computes from one block of columns, what a grid point's blocks hold, and the
   array that the grid writes. The weights and the activations are split into a rounded part and the rest; over the extended
   reals the rest of a real number is zero. -/
module

public import proofs.«01_k».proof.Proof.Gen.AdaIdeal.Value
public import proofs.«01_k».proof.Proof.Gen.AdaRefIdeal.Read
public import proofs.«01_k».proof.Proof.Ffn.Algebra
public import proofs.«01_k».proof.Proof.Ffn.Reads

@[expose] public section

set_option maxRecDepth 16384

noncomputable section

namespace Cert.AdaProof

open Idealize.ShloMosaic Idealize.ShloMosaic.TcCoe Idealize.SL.Sem
open Idealize.ShloMosaic.Pipeline (Dat)
open Cert.AdaIdeal Cert.AdaIdeal.Gen
open Cert.FfnProof (IsReal eq2 at1 at2 at1_eq at2_eq)

/-- The call's operands as functions of plain indices: the conditioning rows `c`, the weights `w` and the bias `b`. -/
structure Par where
  c : ℕ → ℕ → EReal
  w : ℕ → ℕ → EReal
  b : ℕ → EReal

/-- A number times its logistic. -/
def silu (x : EReal) : EReal := x * Ideal.div 1 (1 + Ideal.exp (-x))

/-- The modulation rows. -/
def Par.MOD (p : Par) (b f : ℕ) : EReal := (∑ k : Fin 1024, silu (p.c b k) * p.w k f) + p.b f

/-- What is split is real. -/
structure Par.Finite (p : Par) : Prop where
  c : ∀ b k, IsReal (p.c b k)
  w : ∀ k f, IsReal (p.w k f)

theorem silu_isReal {x : EReal} (h : IsReal x) : IsReal (silu x) := by
  obtain ⟨r, rfl⟩ := h
  have hpos : (0 : ℝ) < 1 + Real.exp (-r) := by positivity
  have e : 1 + Ideal.exp (-(r : EReal)) = ((1 + Real.exp (-r) : ℝ) : EReal) := by rw [← EReal.coe_neg, EReal.coe_add]; rfl
  refine ⟨r * (1 + Real.exp (-r))⁻¹, ?_⟩
  rw [silu, e, Ideal.div, if_neg (by exact_mod_cast hpos.ne'), one_mul, ← EReal.coe_inv, ← EReal.coe_mul]

theorem sub_self_real {x : EReal} (h : IsReal x) : x - x = 0 := by
  obtain ⟨r, rfl⟩ := h
  rw [← EReal.coe_sub, sub_self]; rfl

variable {p : Par}

/-- A block of the modulation rows. -/
theorem pay_at (hp : p.Finite) {n : ℕ} {v0 : FVec Ideal S8x1024 .f32} {v3 : FVec Ideal S1024x1024 .f32} {v17 : FVec Ideal S1x1024 .f32}
    (h0 : ∀ (b : Fin 8) (k : Fin 1024), v0 (ix2 b k) = p.c b k) (h3 : ∀ k f : Fin 1024, v3 (ix2 k f) = p.w k (n + f))
    (h17 : ∀ (z : Fin 1) (f : Fin 1024), v17 (ix2 z f) = p.b (n + f)) (b : Fin 8) (z : Fin 1) (f : Fin 1024) :
    k0_pay1 (F := Ideal) v0 v3 v17 (ix3 b z f) = p.MOD b (n + f) := by
  pointwise [k0_pay1]
  simp only [h0, h3, h17]
  have e : ∀ x : EReal, x * Ideal.logistic x = silu x := fun _ => rfl
  simp only [e, sub_self_real (silu_isReal (hp.c _ _)), sub_self_real (hp.w _ _), zero_mul, mul_zero, Finset.sum_const_zero, add_zero, Par.MOD]

variable (m : (ℓ : Loc nD τ sig) → Buf (Elt Ideal) ℓ)

/-- The operands, from the call's argument arrays. -/
def par (c : Dev nD) : Par where
  c := at2 (m ((c : Thread nD τ).loc main_arg0))
  w := at2 (m ((c : Thread nD τ).loc main_arg1))
  b := at1 (m ((c : Thread nD τ).loc main_arg2))

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![0, 0, t.val] := (by decide +kernel : ∀ t : Fin grid0.N, _)

theorem blk0 (c : Dev nD) (t : Fin cfg0.N) (y : S8x1024.Idx) : iblk m c 0 t y = (par m c).c (y 0) (y 1) := by
  show V m c main_arg0 ((win0_0.blk t).view.emb y) = _
  rw [V_main_arg0]
  refine at2_eq (m ((c : Thread nD τ).loc main_arg0)) _ ?_ ?_ <;> (blk_simp [idx0 t] <;> try omega)

theorem blk1 (c : Dev nD) (t : Fin cfg0.N) (y : S1024x1024.Idx) : iblk m c 1 t y = (par m c).w (y 0) (1024 * t.val + y 1) := by
  show V m c main_arg1 ((win0_1.blk t).view.emb y) = _
  rw [V_main_arg1]
  refine at2_eq (m ((c : Thread nD τ).loc main_arg1)) _ ?_ ?_ <;> (blk_simp [idx1 t] <;> try omega)

theorem blk2 (c : Dev nD) (t : Fin cfg0.N) (y : S1x1024.Idx) : iblk m c 2 t y = (par m c).b (1024 * t.val + y 1) := by
  show V m c main_v0 ((win0_2.blk t).view.emb y) = _
  entry_read
  pointwise
  refine at1_eq (m ((c : Thread nD τ).loc main_arg2)) _ ?_ <;> (blk_simp [idx2 t] <;> try omega)

/-- Point `t` writes its block of columns. -/
theorem out_at (c : Dev nD) (hp : (par m c).Finite) (t : Fin cfg0.N) (y : S8x1x1024.Idx) :
    out0_3 (iblk m c 0 t) (iblk m c 1 t) (iblk m c 2 t) y = (par m c).MOD (y 0) (1024 * t.val + y 2) := by
  frame_out
  idx_vars y
  exact pay_at hp (n := 1024 * t.val) (fun b k => blk0 m c t _) (fun k f => blk1 m c t _) (fun z f => blk2 m c t _) _ _ _

/-- The modulation rows. -/
theorem array_eq (c : Dev nD) (hp : (par m c).Finite) : (dats m 0 c).arrAt 3 cfg0.N = fun i => (par m c).MOD (i 0) (i 2) := by
  refine (dats m 0 c).arrAt_eq_of_covers 3 _ (by decide +kernel) fun t hf y => ?_
  blk_simp
  rw [after0_3]
  refine (out_at m c hp t y).trans (eq2 _ ?_ ?_) <;> (blk_simp [idx3 t] <;> try omega)

/-! ## The reference -/

section

open Cert.AdaRefIdeal.Read

/-- The reference's result at an index. -/
theorem ref_at {x0 : (⟨Cert.AdaRefIdeal.S8x1024, .f32⟩ : BufTy).Contents (Elt Ideal)}
    {x1 : (⟨Cert.AdaRefIdeal.S1024x6144, .f32⟩ : BufTy).Contents (Elt Ideal)} {x2 : (⟨Cert.AdaRefIdeal.S6144, .f32⟩ : BufTy).Contents (Elt Ideal)}
    (h0 : ∀ b k, x0 (ix2 b k) = p.c b k) (h1 : ∀ k f, x1 (ix2 k f) = p.w k f) (h2 : ∀ f, x2 (ix1 f) = p.b f)
    (b : Fin 8) (z : Fin 1) (f : Fin 6144) : val_main_v5 x0 x1 x2 (ix3 b z f) = p.MOD b f := by
  pointwise [val_main_v5, val_main_v4, val_main_v3, val_main_v2, val_main_v1, val_main_v0, val_main_call0_v5, val_main_call0_v4,
    val_main_call0_v3, val_main_call0_v2, val_main_call0_v1, val_main_call0_v0, val_main_call0_cst, val_main_call0_cst_0]
  simp only [h0, h1, h2]
  rfl

end

end Cert.AdaProof

end
-- ==== Proof.Ada.Claims.lean ====
/- The claims of the modulation's projection: the reference's frame, what the precondition says, and that the kernel and the
   reference compute the same array. -/
module

public import proofs.«01_k».proof.Defs
public import proofs.«01_k».proof.Proof.Gen.Pre_finite_ada
public import proofs.«01_k».proof.Proof.Gen.AdaRefIdeal.Run
public import proofs.«01_k».proof.Proof.Ada.Values
public import proofs.«01_k».proof.Proof.Ffn.Claims

@[expose] public section

set_option maxRecDepth 16384

noncomputable section

namespace Cert.AdaProof

open Idealize.ShloMosaic Idealize.ShloMosaic.TcCoe Idealize.SL.Sem
open Cert.FfnProof (at1_eq at2_eq at2_real real_of_lt)

section

open Cert.AdaIdeal

/-- The precondition says that the conditioning rows and the weights are real. -/
theorem finite_of_pre (m : (ℓ : Loc nD τ sig) → Buf (Elt Ideal) ℓ) (h : Cert.Pre_AdaIdeal_finite_ada m) (c : Dev nD) : (par m c).Finite := by
  obtain ⟨h1, h2⟩ := h c
  refine ⟨fun b k => at2_real fun hb hk => ?_, fun k f => at2_real fun hk hf => ?_⟩
  · exact real_of_lt (congrFun h1 (ix2 ⟨b, hb⟩ ⟨k, hk⟩))
  · exact real_of_lt (congrFun h2 (ix2 ⟨k, hk⟩ ⟨f, hf⟩))

end

/-- The reference runs, leaves its arguments as they were and every counter at zero. -/
theorem ref_frame : Cert.quiescent_AdaRefIdeal := fun m ρ _ =>
  (θ_run Cert.AdaRefIdeal.defs _ _).mono (fun r h => ⟨fun c => (h c).2, sem_eq_zero_of_no_sems (by decide) r.2⟩)
    (Cert.AdaRefIdeal.Value.run (F := Ideal) m ρ)

/-- Kernel and reference compute the same modulation rows over the extended reals. -/
theorem algebraic : Cert.algebraic_AdaIdeal_AdaRefIdeal_pre_finite_ada := by
  intro m ρ m' ρ' hpre hag
  refine ⟨fun c i => (par m c).MOD (i 0) (i 2), ?_, ?_⟩
  · exact (θ_run Cert.AdaIdeal.defs _ _).mono (fun _ h c => ⟨(h c).1.trans (array_eq m c (finite_of_pre m hpre c)), (h c).2⟩)
      (Cert.AdaIdeal.Value.run_blocks m ρ)
  · refine (θ_run Cert.AdaRefIdeal.defs _ _).mono (fun _ h c => ⟨?_, (h c).2⟩) (Cert.AdaRefIdeal.Value.run (F := Ideal) m' ρ')
    refine ((h c).1.trans (Cert.AdaRefIdeal.Read.val_main_v5_eq ..)).trans ?_
    obtain ⟨a0, a1, a2⟩ := hag c
    show Cert.AdaRefIdeal.Read.val_main_v5 (F := Ideal) (m' ((c.tc : Thread Cert.AdaRefIdeal.nD Cert.AdaRefIdeal.τ).loc Cert.AdaRefIdeal.main_arg0))
      (m' ((c.tc : Thread Cert.AdaRefIdeal.nD Cert.AdaRefIdeal.τ).loc Cert.AdaRefIdeal.main_arg1))
      (m' ((c.tc : Thread Cert.AdaRefIdeal.nD Cert.AdaRefIdeal.τ).loc Cert.AdaRefIdeal.main_arg2)) = _
    rw [a0, a1, a2]
    funext i
    refine (congrArg _ (?_ : i = ix3 (i 0) (i 1) (i 2))).trans (ref_at (p := par m c)
      (fun _ _ => at2_eq (m ((c : Thread Cert.AdaIdeal.nD Cert.AdaIdeal.τ).loc Cert.AdaIdeal.main_arg0)) _ rfl rfl)
      (fun _ _ => at2_eq (m ((c : Thread Cert.AdaIdeal.nD Cert.AdaIdeal.τ).loc Cert.AdaIdeal.main_arg1)) _ rfl rfl)
      (fun _ => at1_eq (m ((c : Thread Cert.AdaIdeal.nD Cert.AdaIdeal.τ).loc Cert.AdaIdeal.main_arg2)) _ rfl) (i 0) (i 1) (i 2))
    exact funext fun a => match a with | ⟨0, _⟩ => rfl | ⟨1, _⟩ => rfl | ⟨2, _⟩ => rfl

end Cert.AdaProof

end
-- ==== Proof.lean ====
/- The proof of every claim of this certificate, from the modules beside it. -/
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Pre_finite_to_gate
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojIdeal.Value
public import proofs.«01_k».proof.Proof.Gen.InprojRefIdeal
public import proofs.«01_k».proof.Proof.Gen.InprojRefIdeal.Run
public import proofs.«01_k».proof.Proof.Gen.InprojRefIdeal.Read
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaIdeal.Value
public import proofs.«01_k».proof.Proof.Gen.AdaRefIdeal
public import proofs.«01_k».proof.Proof.Gen.AdaRefIdeal.Run
public import proofs.«01_k».proof.Proof.Gen.AdaRefIdeal.Read
public import proofs.«01_k».proof.Proof.Gen.Pre_finite_ada
public import proofs.«01_k».proof.Proof.Ffn.Claims
public import proofs.«01_k».proof.Proof.Inproj.Claims
public import proofs.«01_k».proof.Proof.Ada.Claims
public import Idealize.ShloMosaic.Adequacy
public import Idealize.ShloMosaic.Init

@[expose] public section

noncomputable section

namespace Cert.Proof

open Idealize.ShloMosaic Idealize.SL.Sem

/-- Every claim, of the three calls: the frames of the kernel, of its ideal reading and of the reference; that the ideal reading is
    the kernel's own text; and that kernel and reference compute the same arrays over the extended reals. -/
theorem claim : Cert.Claim := ⟨Cert.Ffn.Gen.facts, Cert.FfnIdeal.Gen.facts, Cert.FfnRefIdeal.Gen.facts, Cert.Inproj.Gen.facts,
  Cert.InprojIdeal.Gen.facts, Cert.InprojRefIdeal.Gen.facts, Cert.Ada.Gen.facts, Cert.AdaIdeal.Gen.facts, Cert.AdaRefIdeal.Gen.facts,
  Cert.Pre_finite_to_gate.Gen.facts, Cert.Pre_finite_ada.Gen.facts,
  fun m ρ _ => Cert.Ffn.Gen.frame m ρ, fun m ρ _ => Cert.FfnIdeal.Gen.frame m ρ, fun m ρ _ => Cert.FfnIdeal.Gen.frame m ρ,
  Cert.FfnProof.ref_frame, fun m ρ _ => Cert.FfnProof.ref_frame m ρ trivial, fun m ρ _ => Cert.Inproj.Gen.frame m ρ,
  fun m ρ _ => Cert.InprojIdeal.Gen.frame m ρ, Cert.InprojProof.ref_frame,
  fun m ρ _ => Cert.Ada.Gen.frame m ρ, fun m ρ _ => Cert.AdaIdeal.Gen.frame m ρ, fun m ρ _ => Cert.AdaIdeal.Gen.frame m ρ,
  Cert.AdaProof.ref_frame, fun m ρ _ => Cert.AdaProof.ref_frame m ρ trivial, trivial, Cert.FfnProof.algebraic, trivial,
  Cert.InprojProof.algebraic, trivial, Cert.AdaProof.algebraic⟩

end Cert.Proof

end
